-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S4096x256 : Shape := ⟨2, ![4096, 256]⟩
abbrev S4096x4096 : Shape := ⟨2, ![4096, 4096]⟩
abbrev S256 : Shape := ⟨1, ![256]⟩
abbrev S4x256x256 : Shape := ⟨3, ![4, 256, 256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S4096x256 .f32) (main_arg1 : FVec F S4096x4096 .f32) (main_arg2 : FVec F S256 .f32) (main_arg3 : FVec F S256 .f32) (main_arg4 : FVec F S4x256x256 .f32) (main_arg5 : FVec F S256 .f32) (main_arg6 : FVec F S256 .f32) (main_arg7 : FVec F S256 .f32) (main_arg8 : FVec F S4x256x256 .f32) (main_arg9 : FVec F S256 .f32) : IVec S256 1 :=
  let main_v0 : FVec F S256 .f32 := Host.absf main_arg2
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256 .f32 := Host.absf main_arg6
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : IVec S256 1 := andi main_v2 main_v5
  main_v6
-- ==== Kernel.lean ====
abbrev S4096x256 : Shape := ⟨2, ![4096, 256]⟩
abbrev S4096x4096 : Shape := ⟨2, ![4096, 4096]⟩
abbrev S256 : Shape := ⟨1, ![256]⟩
abbrev S4x256x256 : Shape := ⟨3, ![4, 256, 256]⟩
abbrev S1x256 : Shape := ⟨2, ![1, 256]⟩
abbrev S256x4096 : Shape := ⟨2, ![256, 4096]⟩
abbrev S2x256 : Shape := ⟨2, ![2, 256]⟩
abbrev S256x256 : Shape := ⟨2, ![256, 256]⟩
abbrev S1x256x256 : Shape := ⟨3, ![1, 256, 256]⟩
abbrev S1024x4096 : Shape := ⟨2, ![1024, 4096]⟩
abbrev S1024x256 : Shape := ⟨2, ![1024, 256]⟩

abbrev nBuf : Space → Nat
  | .hbm => 19
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256, .f32⟩
  | .hbm, ⟨3, _⟩ => ⟨S256, .f32⟩
  | .hbm, ⟨4, _⟩ => ⟨S4x256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S4x256x256, .f32⟩
  | .hbm, ⟨9, _⟩ => ⟨S256, .f32⟩
  | .hbm, ⟨10, _⟩ => ⟨S4x256x256, .bf16⟩
  | .hbm, ⟨11, _⟩ => ⟨S4x256x256, .bf16⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S4096x256, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4x256x256, .bf16⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S4x256x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S4096x256, .f32⟩
  | .local _ .vmem, ⟨12, _⟩ => ⟨S4096x4096, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .f32⟩
  | .local _ .vmem, ⟨17, _⟩ => ⟨S2x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_2 : Index := 0#32
  ![v6.toNat, 0]
def k0_off2 (i : grid0.Coords) : Fin 2 → Nat :=
  let arg0 : BitVec 32 := BitVec.ofNat 32 (i 0).val
  let c256_i32_5 : BitVec 32 := 256#32
  let v13 : BitVec 32 := Scalar.muli arg0 c256_i32_5
  let v14 : Index := Scalar.indexCast v13
  let c0_6 : Index := 0#32
  ![v14.toNat, 0]
def k0_cond2 (i : grid0.Coords) : BitVec 1 :=
  let arg0 : BitVec 32 := BitVec.ofNat 32 (i 0).val
  let c15_i32 : BitVec 32 := 15#32
  let v33 : BitVec 1 := Scalar.cmpi .eq arg0 c15_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x256 : Shape := ⟨2, ![4096, 256]⟩
abbrev S4096x4096 : Shape := ⟨2, ![4096, 4096]⟩
abbrev S256 : Shape := ⟨1, ![256]⟩
abbrev S4x256x256 : Shape := ⟨3, ![4, 256, 256]⟩
abbrev S_ : Shape := ⟨0, ![]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 135
  | .vmem => 0
  | .smem => 0
  | _ => 0

abbrev hbmTy0_0 (i : Nat) : BufTy := match i % 128 with
  | 0 => ⟨S4096x256, .f32⟩
  | 1 => ⟨S4096x4096, .f32⟩
  | 2 => ⟨S256, .f32⟩
  | 3 => ⟨S256, .f32⟩
  | 4 => ⟨S4x256x256, .f32⟩
  | 5 => ⟨S256, .f32⟩
  | 6 => ⟨S256, .f32⟩
  | 7 => ⟨S256, .f32⟩
  | 8 => ⟨S4x256x256, .f32⟩
  | 9 => ⟨S256, .f32⟩
  | 10 => ⟨S_, .f32⟩
  | 11 => ⟨S256, .f32⟩
  | 12 => ⟨S_, .f32⟩
  | 13 => ⟨S256, .f32⟩
  | 14 => ⟨S256, .f32⟩
  | 15 => ⟨S1x256, .f32⟩
  | 16 => ⟨S4096x256, .f32⟩
  | 17 => ⟨S4096x256, .f32⟩
  | 18 => ⟨S4096x256, .f32⟩
  | 19 => ⟨S_, .f32⟩
  | 20 => ⟨S256, .f32⟩
  | 21 => ⟨S_, .f32⟩
  | 22 => ⟨S256, .f32⟩
  | 23 => ⟨S256, .f32⟩
  | 24 => ⟨S1x256, .f32⟩
  | 25 => ⟨S4096x256, .f32⟩
  | 26 => ⟨S4096x256, .f32⟩
  | 27 => ⟨S_, .f32⟩
  | 28 => ⟨S256, .f32⟩
  | 29 => ⟨S256, .f32⟩
  | 30 => ⟨S256, .f32⟩
  | 31 => ⟨S1x256, .f32⟩
  | 32 => ⟨S4096x256, .f32⟩
  | 33 => ⟨S4096x256, .f32⟩
  | 34 => ⟨S1x256, .f32⟩
  | 35 => ⟨S4096x256, .f32⟩
  | 36 => ⟨S4096x256, .f32⟩
  | 37 => ⟨S1x256, .f32⟩
  | 38 => ⟨S4096x256, .f32⟩
  | 39 => ⟨S4096x256, .f32⟩
  | 40 => ⟨S1x256x256, .f32⟩
  | 41 => ⟨S256x256, .f32⟩
  | 42 => ⟨S4096x256, .f32⟩
  | 43 => ⟨S4096x256, .f32⟩
  | 44 => ⟨S1x256x256, .f32⟩
  | 45 => ⟨S256x256, .f32⟩
  | 46 => ⟨S4096x256, .f32⟩
  | 47 => ⟨S4096x256, .f32⟩
  | 48 => ⟨S4096x256, .f32⟩
  | 49 => ⟨S_, .f32⟩
  | 50 => ⟨S4096x256, .f32⟩
  | 51 => ⟨S4096x256, .f32⟩
  | 52 => ⟨S4096x256, .f32⟩
  | 53 => ⟨S1x256x256, .f32⟩
  | 54 => ⟨S256x256, .f32⟩
  | 55 => ⟨S4096x256, .f32⟩
  | 56 => ⟨S4096x256, .f32⟩
  | 57 => ⟨S4096x256, .f32⟩
  | 58 => ⟨S_, .f32⟩
  | 59 => ⟨S4096x256, .f32⟩
  | 60 => ⟨S4096x256, .f32⟩
  | 61 => ⟨S4096x256, .f32⟩
  | 62 => ⟨S1x256x256, .f32⟩
  | 63 => ⟨S256x256, .f32⟩
  | 64 => ⟨S4096x256, .f32⟩
  | 65 => ⟨S4096x256, .f32⟩
  | 66 => ⟨S1x256, .f32⟩
  | 67 => ⟨S4096x256, .f32⟩
  | 68 => ⟨S4096x256, .f32⟩
  | 69 => ⟨S_, .f32⟩
  | 70 => ⟨S4096x256, .f32⟩
  | 71 => ⟨S4096x256, .f32⟩
  | 72 => ⟨S_, .f32⟩
  | 73 => ⟨S256, .f32⟩
  | 74 => ⟨S_, .f32⟩
  | 75 => ⟨S256, .f32⟩
  | 76 => ⟨S256, .f32⟩
  | 77 => ⟨S1x256, .f32⟩
  | 78 => ⟨S4096x256, .f32⟩
  | 79 => ⟨S4096x256, .f32⟩
  | 80 => ⟨S4096x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S4096x256, .f32⟩
  | 88 => ⟨S4096x256, .f32⟩
  | 89 => ⟨S_, .f32⟩
  | 90 => ⟨S256, .f32⟩
  | 91 => ⟨S256, .f32⟩
  | 92 => ⟨S256, .f32⟩
  | 93 => ⟨S1x256, .f32⟩
  | 94 => ⟨S4096x256, .f32⟩
  | 95 => ⟨S4096x256, .f32⟩
  | 96 => ⟨S1x256, .f32⟩
  | 97 => ⟨S4096x256, .f32⟩
  | 98 => ⟨S4096x256, .f32⟩
  | 99 => ⟨S1x256, .f32⟩
  | 100 => ⟨S4096x256, .f32⟩
  | 101 => ⟨S4096x256, .f32⟩
  | 102 => ⟨S1x256x256, .f32⟩
  | 103 => ⟨S256x256, .f32⟩
  | 104 => ⟨S4096x256, .f32⟩
  | 105 => ⟨S4096x256, .f32⟩
  | 106 => ⟨S1x256x256, .f32⟩
  | 107 => ⟨S256x256, .f32⟩
  | 108 => ⟨S4096x256, .f32⟩
  | 109 => ⟨S4096x256, .f32⟩
  | 110 => ⟨S4096x256, .f32⟩
  | 111 => ⟨S_, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S4096x256, .f32⟩
  | 124 => ⟨S1x256x256, .f32⟩
  | 125 => ⟨S256x256, .f32⟩
  | 126 => ⟨S4096x256, .f32⟩
  | 127 => ⟨S4096x256, .f32⟩
  | _ => ⟨S4096x256, .f32⟩

abbrev hbmTy0_1 (i : Nat) : BufTy := match i % 128 with
  | 0 => ⟨S1x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call0_cst : Ref sig .tc := ⟨.hbm, 69, rfl⟩
abbrev main_call0_v0 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_11 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_12 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_call1_cst : Ref sig .tc := ⟨.hbm, 132, rfl⟩
abbrev main_call1_v0 : Ref sig .tc := ⟨.hbm, 133, rfl⟩
abbrev main_v106 : Ref sig .tc := ⟨.hbm, 134, rfl⟩

abbrev nD : Nat := 1
abbrev τ : Topo := Topo.v7x

variable {F : FTy → Type} [FloatOps F]
-- ==== Proof.StepI.lean ====
/-
  One grid point's straight-line part — the copy of a block of the graph operator's rows into the bf16 scratch, the
  first product with it, and the first two terms of the layer — as a program of its own, and what it leaves in the
  scratch buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Writes
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (put window)

/-! ## The two branches, over the grid points -/

/-- The condition of the first branch: this is the first point. -/
abbrev isFirst (i : grid0.Coords) : Prop :=
  Scalar.cmpi .ne (Scalar.extui (Scalar.cmpi .eq (BitVec.ofNat 32 (i 0).val) 0#32) : BitVec 32) 0#32 = 1#1

/-- The condition of the second branch: this is the last point. -/
abbrev isLast (i : grid0.Coords) : Prop := k0_cond2 i = 1#1

/-- The grid has one axis of sixteen: a point is its own coordinate. -/
theorem coord_eq (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

theorem isFirst_iff (t : Fin cfg0.N) : isFirst (grid0.coords t) ↔ t.val = 0 := by
  have ht : t.val < 16 := Nat.lt_of_lt_of_eq t.isLt N_0
  have e0 := coord_eq t
  simp only [isFirst, e0]
  word_cmp

theorem isLast_iff (t : Fin cfg0.N) : isLast (grid0.coords t) ↔ t.val = 15 := by
  have ht : t.val < 16 := Nat.lt_of_lt_of_eq t.isLt N_0
  have e0 := coord_eq t
  simp only [isLast, k0_cond2, e0]
  word_cmp

/-! ## The body in two pieces -/

variable (c : Dev nD) (i : grid0.Coords)
  (arg1 : Memref sig .tc .vmem S256x4096 .f32) (harg1 : arg1.IsWhole)
  (arg2 : Memref sig .tc .vmem S4096x256 .f32) (harg2 : arg2.IsWhole)
  (arg3 : Memref sig .tc .vmem S4x256x256 .bf16) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S4x256x256 .bf16) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S4096x256 .f32) (harg11 : arg11.IsWhole)
  (arg12 : Memref sig .tc .vmem S4096x4096 .bf16) (harg12 : arg12.IsWhole)
  (arg13 : Memref sig .tc .vmem S4096x256 .bf16) (harg13 : arg13.IsWhole)
  (arg14 : Memref sig .tc .vmem S4096x256 .bf16) (harg14 : arg14.IsWhole)
  (arg15 : Memref sig .tc .vmem S4096x256 .bf16) (harg15 : arg15.IsWhole)
  (arg16 : Memref sig .tc .vmem S4096x256 .f32) (harg16 : arg16.IsWhole)
  (arg17 : Memref sig .tc .vmem S2x256 .f32) (harg17 : arg17.IsWhole)

/-- What every point runs. -/
def stepProg : Prog (TpuEff nD τ sig (Elt F) Λ₀ .tc) PUnit := do
  let ⟨arg0, v32⟩ : Σ' (arg0 : BitVec 32), FVec F S256x256 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  Prog.lift (.store arg16 (Rect.unit (s := S4096x256) (k0_off2 i) S256x256.size (k0_off2_inb i)) v32 Finset.univ (View.stores_vmem_bits_univ h_S256x256 rfl) (.inl rfl))

/-- What the last point alone runs: the second branch. -/
def lastProg : Prog (TpuEff nD τ sig (Elt F) Λ₀ .tc) PUnit := do
  let ⟨v532, v533⟩ : Σ' (v532 : FVec F S1024x256 .f32), FVec F S1024x256 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let v535 : Vec F S1024x256 .f32 ← Prog.lift (.load arg11 (Rect.unit (s := S4096x256) ![3072, 0] S1024x256.size inb_S4096x256_S1024x256_3072_0).toLoadRect (View.loadsAt_vmem h_S1024x256))
  Prog.lift (.store arg11 (Rect.unit (s := S4096x256) ![3072, 0] S1024x256.size inb_S4096x256_S1024x256_3072_0) (k0_pay1 v532 v533) Finset.univ (View.stores_vmem_bits_univ h_S1024x256 rfl) (.inl rfl))
  pure ⟨⟩

/-- The body is the common part, then the branch. -/
theorem body_split : cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    = (stepProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun _ => if k0_cond2 i = 1#1 then lastProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 else pure ⟨⟩) := by
  rw [cc0__body_eq_skeleton]
  unfold cc0__body_skel stepProg
  rw [Prog.bind_assoc]
  refine congrArg (Bind.bind _) (funext fun r => ?_)
  obtain ⟨a, v⟩ := r
  refine congrArg (Bind.bind _) (funext fun u => ?_)
  by_cases h : k0_cond2 i = 1#1
  · simp only [dif_pos h, if_pos h]; rfl
  · simp only [dif_neg h, if_neg h]

/-! ## What the common part leaves -/

/-- A load of a whole buffer's own sizes reads what it holds. -/
theorem readAt_whole {sp : Space} {s : Shape} {e : EltTy} {a : Memref sig .tc sp s e} (h : a.IsWhole) (x : Vec F s e)
    {off : Fin s.rank → ℕ} (inb : ∀ b, off b + s.size b ≤ s.size b) :
    a.view.readAt (Elt F) (Rect.unit off s.size inb).toLoadRect (h.unread x) = x := by
  rw [View.readAt_full, h.read_unread]

/-- A load of a box of a whole buffer reads the window of what it holds. -/
theorem readAt_box {sp : Space} {s : Shape} {e : EltTy} {a : Memref sig .tc sp s e} (h : a.IsWhole) (x : Vec F s e)
    {off size : Fin s.rank → ℕ} (inb : ∀ b, off b + size b ≤ s.size b) :
    a.view.readAt (Elt F) (Rect.unit off size inb).toLoadRect (h.unread x) = window x off size inb := by
  rw [View.readAt_unit _ _ inb rfl inb, h.read_unread]

/-- Storing a box over a whole buffer puts it in what the buffer holds. -/
theorem store_box {sp : Space} {s : Shape} {e : EltTy} {a : Memref sig .tc sp s e} (h : a.IsWhole) (x : Vec F s e)
    {off size : Fin s.rank → ℕ} (inb : ∀ b, off b + size b ≤ s.size b) (w : (Rect.unit off size inb).shape.Idx → Elt F e) :
    a.view.read (Elt F) (a.view.writes (Elt F) (h.unread x) [⟨Rect.unit off size inb, w⟩]) = put x off size w := by
  rw [View.read_writes_cons_put _ _ inb w [] rfl, View.writes_nil, h.read_unread]

/-- A load of a box after a store of the whole buffer reads the window of what was stored. -/
theorem readAt_box_stored {sp : Space} {s : Shape} {e : EltTy} (v : View sig .tc sp s e) (f : v.ty.Contents (Elt F)) {off off' size : Fin s.rank → ℕ}
    (inb : ∀ b, off b + size b ≤ s.size b) (inb' : ∀ b, off' b + s.size b ≤ s.size b) (w : Vec F s e) (L : List (View.Piece (Elt F) s e)) :
    v.readAt (Elt F) (Rect.unit off size inb).toLoadRect (v.writes (Elt F) f (⟨Rect.unit off' s.size inb', w⟩ :: L)) = window w off size inb := by
  refine (View.readAt_unit v _ inb rfl inb).trans ?_
  rw [View.read_writes_full]

/-- The bf16 copy of the operator after a point: the block written over its rows. -/
def next12 (x0 : Vec F S256x4096 .f32) (s12 : Vec F S4096x4096 .bf16) : Vec F S4096x4096 .bf16 :=
  put s12 (k0_off1 i) S256x4096.size (k0_pay69 x0)

/-- The first product after a point: its block of rows. -/
def next14 (x0 : Vec F S256x4096 .f32) (s13 s14 : Vec F S4096x256 .bf16) : Vec F S4096x256 .bf16 :=
  put s14 (k0_off2 i) S256x256.size (k0_pay71 x0 s13)

/-- The block of rows of the first two terms of the layer. -/
def pay16 (x0 : Vec F S256x4096 .f32) (x2 : Vec F S4x256x256 .bf16) (s13 : Vec F S4096x256 .bf16) : FVec F S256x256 .f32 :=
  k0_pay72 x0 s13 (window s13 (k0_off2 i) S256x256.size (k0_off2_inb i))
    (window x2 ![0, 0, 0] S1x256x256.size inb_S4x256x256_S1x256x256_0_0_0) (window x2 ![1, 0, 0] S1x256x256.size inb_S4x256x256_S1x256x256_1_0_0)

/-- The first two terms of the layer after a point. -/
def next16 (x0 : Vec F S256x4096 .f32) (x2 : Vec F S4x256x256 .bf16) (s13 : Vec F S4096x256 .bf16) (s16 : Vec F S4096x256 .f32) : Vec F S4096x256 .f32 :=
  put s16 (k0_off2 i) S256x256.size (pay16 i x0 x2 s13)

/-- The normalised input, as the first point stores it. -/
def first13 (x1 : Vec F S4096x256 .f32) (x4 x5 : Vec F S1x256 .f32) : Vec F S4096x256 .bf16 := k0_pay67 x1 x4 x5 x1

/-- The normalisation's scale and offset rows, as the first point stores them. -/
def first17 (x1 : Vec F S4096x256 .f32) (x4 x5 : Vec F S1x256 .f32) (s17 : Vec F S2x256 .f32) : Vec F S2x256 .f32 :=
  put (put s17 ![0, 0] S1x256.size (k0_pay65 x1 x4)) ![1, 0] S1x256.size (k0_pay66 x1 x4 x5)

set_option maxHeartbeats 1600000 in
/-- The common part at a point that is not the first. -/
theorem step_next (hc0 : ¬isFirst i) (x0 : Vec F S256x4096 .f32) (x2 : Vec F S4x256x256 .bf16) (s12 : Vec F S4096x4096 .bf16)
    (s13 s14 : Vec F S4096x256 .bf16) (s16 : Vec F S4096x256 .f32) (E : Set ℕ) (K : PUnit → sProp 𝕄) :
    iprop(owns (c : Thread nD τ) arg1 fullShare x0 ∗ owns (c : Thread nD τ) arg3 fullShare x2 ∗ owns (c : Thread nD τ) arg12 fullShare s12 ∗ owns (c : Thread nD τ) arg13 fullShare s13 ∗ owns (c : Thread nD τ) arg14 fullShare s14 ∗ owns (c : Thread nD τ) arg16 fullShare s16
        ∗ (iprop(owns (c : Thread nD τ) arg1 fullShare x0 ∗ owns (c : Thread nD τ) arg3 fullShare x2 ∗ owns (c : Thread nD τ) arg12 fullShare (next12 i x0 s12) ∗ owns (c : Thread nD τ) arg13 fullShare s13 ∗ owns (c : Thread nD τ) arg14 fullShare (next14 i x0 s13 s14) ∗ owns (c : Thread nD τ) arg16 fullShare (next16 i x0 x2 s13 s16)) -∗ K ⟨⟩))
      ⊢ wp frame (wpE (defs₀ (F := F)) Variants.none c none) E (stepProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold stepProg
  simp only [k0_part16_eq_skeleton]
  unfold owns
  iintro ⟨⟨%f1, %hf1, H1⟩, ⟨%f3, %hf3, H3⟩, ⟨%f12, %hf12, H12⟩, ⟨%f13, %hf13, H13⟩, ⟨%f14, %hf14, H14⟩, ⟨%f16, %hf16, H16⟩, Hk⟩
  obtain rfl := harg1.eq_unread hf1; obtain rfl := harg3.eq_unread hf3; obtain rfl := harg12.eq_unread hf12; obtain rfl := harg13.eq_unread hf13; obtain rfl := harg14.eq_unread hf14; obtain rfl := harg16.eq_unread hf16
  sl_exec (disch := first | sl_exact hc0)
  try sl_step
  iapply Hk
  isplitl [H1]
  · iexists _; isplitr; · ipureintro; exact harg1.read_unread _
    iexact H1
  isplitl [H3]
  · iexists _; isplitr; · ipureintro; exact harg3.read_unread _
    iexact H3
  isplitl [H12]
  · iexists _; isplitr; swap; · iexact H12
    ipureintro
    rw [store_box harg12, readAt_whole harg1]; rfl
  isplitl [H13]
  · iexists _; isplitr; · ipureintro; exact harg13.read_unread _
    iexact H13
  isplitl [H14]
  · iexists _; isplitr; swap; · iexact H14
    ipureintro
    rw [store_box harg14, readAt_whole harg1, readAt_whole harg13]; rfl
  · iexists _; isplitr; swap; · iexact H16
    ipureintro
    unfold step_next.sl.r
    rw [store_box harg16, readAt_whole harg1, readAt_whole harg13, readAt_box harg13, readAt_box harg3, readAt_box harg3]; rfl

set_option maxHeartbeats 1600000 in
/-- The common part at the first point: it also stores the normalised input and the normalisation's rows. -/
theorem step_first (hc0 : isFirst i) (x0 : Vec F S256x4096 .f32) (x1 : Vec F S4096x256 .f32) (x2 : Vec F S4x256x256 .bf16) (x4 x5 : Vec F S1x256 .f32)
    (s12 : Vec F S4096x4096 .bf16) (s13 s14 : Vec F S4096x256 .bf16) (s16 : Vec F S4096x256 .f32) (s17 : Vec F S2x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg12 fullShare s12 ∗ owns (c : Thread nD τ) arg13 fullShare s13 ∗ owns (c : Thread nD τ) arg14 fullShare s14 ∗ owns (c : Thread nD τ) arg16 fullShare s16 ∗ owns (c : Thread nD τ) arg17 fullShare s17
        ∗ (iprop(owns (c : Thread nD τ) arg1 fullShare x0 ∗ owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg12 fullShare (next12 i x0 s12) ∗ owns (c : Thread nD τ) arg13 fullShare (first13 x1 x4 x5)
            ∗ owns (c : Thread nD τ) arg14 fullShare (next14 i x0 (first13 x1 x4 x5) s14) ∗ owns (c : Thread nD τ) arg16 fullShare (next16 i x0 x2 (first13 x1 x4 x5) s16) ∗ owns (c : Thread nD τ) arg17 fullShare (first17 x1 x4 x5 s17)) -∗ K ⟨⟩))
      ⊢ wp frame (wpE (defs₀ (F := F)) Variants.none c none) E (stepProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold stepProg
  simp only [k0_part16_eq_skeleton]
  unfold owns
  iintro ⟨⟨%f1, %hf1, H1⟩, ⟨%f2, %hf2, H2⟩, ⟨%f3, %hf3, H3⟩, ⟨%f5, %hf5, H5⟩, ⟨%f6, %hf6, H6⟩, ⟨%f12, %hf12, H12⟩, ⟨%f13, %hf13, H13⟩, ⟨%f14, %hf14, H14⟩, ⟨%f16, %hf16, H16⟩, ⟨%f17, %hf17, H17⟩, Hk⟩
  obtain rfl := harg1.eq_unread hf1; obtain rfl := harg2.eq_unread hf2; obtain rfl := harg3.eq_unread hf3; obtain rfl := harg5.eq_unread hf5; obtain rfl := harg6.eq_unread hf6; obtain rfl := harg12.eq_unread hf12; obtain rfl := harg13.eq_unread hf13; obtain rfl := harg14.eq_unread hf14; obtain rfl := harg16.eq_unread hf16; obtain rfl := harg17.eq_unread hf17
  sl_exec (disch := first | sl_exact hc0)
  try sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6
  isplitl [H12]
  · iexists _; isplitr; swap; · iexact H12
    ipureintro
    rw [store_box harg12, readAt_whole harg1]; rfl
  isplitl [H13]
  · iexists _; isplitr; swap; · iexact H13
    ipureintro
    unfold step_first.sl.H13_1
    rw [View.read_writes_full, readAt_whole harg2, readAt_whole harg5, readAt_whole harg6]; rfl
  isplitl [H14]
  · iexists _; isplitr; swap; · iexact H14
    ipureintro
    unfold step_first.sl.v10 step_first.sl.H13_1
    rw [store_box harg14, View.readCov_full, readAt_whole harg1, readAt_whole harg2, readAt_whole harg5, readAt_whole harg6]; rfl
  isplitl [H16]
  · iexists _; isplitr; swap; · iexact H16
    ipureintro
    unfold step_first.sl.r step_first.sl.v10 step_first.sl.v20 step_first.sl.H13_1
    rw [store_box harg16, View.readCov_full, readAt_box_stored, readAt_whole harg1, readAt_whole harg2, readAt_whole harg5, readAt_whole harg6, readAt_box harg3, readAt_box harg3]
    rfl
  · iexists _; isplitr; swap; · iexact H17
    ipureintro
    rw [View.read_writes_cons_put _ _ _ _ _ rfl, store_box harg17, readAt_whole harg2, readAt_whole harg5, readAt_whole harg6]; rfl

end Cert.KernelIdeal.Hand

end
-- ==== Proof.LastI.lean ====
/-
  What the last grid point runs beyond the common part: the rest of the first layer, its normalisation and the second
  layer, from scratch buffers whose whole contents are given.
-/
module

public import proofs.«01_k».proof.Proof.StepI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S256x4096 .f32) (harg1 : arg1.IsWhole)
  (arg2 : Memref sig .tc .vmem S4096x256 .f32) (harg2 : arg2.IsWhole)
  (arg3 : Memref sig .tc .vmem S4x256x256 .bf16) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S4x256x256 .bf16) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S4096x256 .f32) (harg11 : arg11.IsWhole)
  (arg12 : Memref sig .tc .vmem S4096x4096 .bf16) (harg12 : arg12.IsWhole)
  (arg13 : Memref sig .tc .vmem S4096x256 .bf16) (harg13 : arg13.IsWhole)
  (arg14 : Memref sig .tc .vmem S4096x256 .bf16) (harg14 : arg14.IsWhole)
  (arg15 : Memref sig .tc .vmem S4096x256 .bf16) (harg15 : arg15.IsWhole)
  (arg16 : Memref sig .tc .vmem S4096x256 .f32) (harg16 : arg16.IsWhole)
  (arg17 : Memref sig .tc .vmem S2x256 .f32) (harg17 : arg17.IsWhole)

set_option maxHeartbeats 4000000 in
/-- The pieces the last point writes over the output buffer, with the proof that it writes them: from the inputs'
    buffers and the scratch buffers at given contents, the branch runs to its end, leaves the inputs, the operator's
    copy and the normalisation's rows as they were, and the output buffer with these pieces written over it. -/
def lastRun (x1 : Vec F S4096x256 .f32) (x2 : Vec F S4x256x256 .bf16) (x3 : Vec F S1x256 .f32) (x4 : Vec F S1x256 .f32) (x5 : Vec F S1x256 .f32) (x6 : Vec F S4x256x256 .bf16) (x7 : Vec F S1x256 .f32) (x8 : Vec F S1x256 .f32) (x9 : Vec F S1x256 .f32) (s12 : Vec F S4096x4096 .bf16) (s13 : Vec F S4096x256 .bf16) (s14 : Vec F S4096x256 .bf16) (s16 : Vec F S4096x256 .f32) (s17 : Vec F S2x256 .f32) :
    { L : List (View.Piece (Elt F) S4096x256 .f32) //
      ∀ (E : Set ℕ) (K : PUnit → sProp 𝕄),
        iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare s12 ∗ owns (c : Thread nD τ) arg13 fullShare s13 ∗ owns (c : Thread nD τ) arg14 fullShare s14 ∗ (∃ d, owns (c : Thread nD τ) arg15 fullShare d) ∗ owns (c : Thread nD τ) arg16 fullShare s16 ∗ owns (c : Thread nD τ) arg17 fullShare s17
            ∗ (iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L) ∗ owns (c : Thread nD τ) arg12 fullShare s12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare s17) -∗ K ⟨⟩))
          ⊢ wp frame (wpE (defs₀ (F := F)) Variants.none c none) E (lastProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    unfold lastProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%d15, %f15, -, H15⟩, ⟨%f16, %hf16, H16⟩, ⟨%f17, %hf17, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg12.eq_unread hf12
    obtain rfl := harg13.eq_unread hf13
    obtain rfl := harg14.eq_unread hf14
    obtain rfl := harg16.eq_unread hf16
    obtain rfl := harg17.eq_unread hf17
    sl_exec
    try sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _; isplitr; · ipureintro; exact harg17.read_unread _
    iexact H17

end Cert.KernelIdeal.Hand

end
-- ==== Proof.StateI.lean ====
/-
  What the scratch buffers hold between grid points, and what the whole run leaves in them, as arrays named once:
  the operator's copy, the normalised input, the first product, the first two terms of the layer, and the
  normalisation's two rows. Every row of them is written at one grid point — row r at point r / 256 —, so each array is
  given row by row, and the state before point n says that the rows under 256 n have been written.
-/
module

public import proofs.«01_k».proof.Proof.LastI
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (put window)

variable (m : (ℓ : Loc nD τ sig) → Buf (Elt F) ℓ) (ρ : Dev nD → PrngReg)

/-! ## A box put into an array -/

theorem put_in {s : Shape} {α : Type} (x x' : s.Idx → α) (off size : Fin s.rank → ℕ) (w : ((a : Fin s.rank) → Fin (size a)) → α) (y : s.Idx)
    (h : ∀ a, off a ≤ (y a).val ∧ (y a).val < off a + size a) : put x off size w y = put x' off size w y := by
  unfold put; rw [dif_pos h, dif_pos h]

theorem put_out {s : Shape} {α : Type} (x : s.Idx → α) (off size : Fin s.rank → ℕ) (w : ((a : Fin s.rank) → Fin (size a)) → α) (y : s.Idx)
    (h : ¬∀ a, off a ≤ (y a).val ∧ (y a).val < off a + size a) : put x off size w y = x y := by
  unfold put; rw [dif_neg h]

/-! ## Rows and points -/

theorem N_eq : cfg0.N = 16 := N_0

/-- The point that writes row `r`. -/
def ptOf (r : Fin 4096) : Fin cfg0.N := ⟨r.val / 256, by rw [N_eq]; omega⟩

/-- The first point. -/
def pt0 : Fin cfg0.N := ⟨0, by rw [N_eq]; omega⟩

theorem off1_eq (t : Fin cfg0.N) : k0_off1 (grid0.coords t) = ![256 * t.val, 0] := by
  have ht : t.val < 16 := Nat.lt_of_lt_of_eq t.isLt N_0
  have e0 := coord_eq t
  unfold k0_off1
  simp only [e0]
  funext a
  fin_cases a
  · show (Scalar.indexCast (Scalar.muli (BitVec.ofNat 32 t.val) 256#32) : Index).toNat = 256 * t.val
    have h : ∀ n : Fin 16, (Scalar.indexCast (Scalar.muli (BitVec.ofNat 32 n.val) 256#32) : Index).toNat = 256 * n.val := by decide
    exact h ⟨t.val, ht⟩
  · rfl

theorem off2_eq (t : Fin cfg0.N) : k0_off2 (grid0.coords t) = ![256 * t.val, 0] := off1_eq t

/-- A row lies in a point's box of the operator's copy exactly when the point is the row's. -/
theorem in1 (t : Fin cfg0.N) (y : S4096x4096.Idx) :
    (∀ a, k0_off1 (grid0.coords t) a ≤ (y a).val ∧ (y a).val < k0_off1 (grid0.coords t) a + S256x4096.size a) ↔ (y 0).val / 256 = t.val := by
  rw [off1_eq]
  have h1 : (y 1).val < 4096 := (y 1).isLt
  constructor
  · intro h
    have h0 : 256 * t.val ≤ (y 0).val ∧ (y 0).val < 256 * t.val + 256 := h 0
    omega
  · intro h a
    fin_cases a
    · show 256 * t.val ≤ (y 0).val ∧ (y 0).val < 256 * t.val + 256
      omega
    · show 0 ≤ (y 1).val ∧ (y 1).val < 0 + 4096
      omega

/-- The same of the arrays of 256 columns. -/
theorem in2 (t : Fin cfg0.N) (y : S4096x256.Idx) :
    (∀ a, k0_off2 (grid0.coords t) a ≤ (y a).val ∧ (y a).val < k0_off2 (grid0.coords t) a + S256x256.size a) ↔ (y 0).val / 256 = t.val := by
  rw [off2_eq]
  have h1 : (y 1).val < 256 := (y 1).isLt
  constructor
  · intro h
    have h0 : 256 * t.val ≤ (y 0).val ∧ (y 0).val < 256 * t.val + 256 := h 0
    omega
  · intro h a
    fin_cases a
    · show 256 * t.val ≤ (y 0).val ∧ (y 0).val < 256 * t.val + 256
      omega
    · show 0 ≤ (y 1).val ∧ (y 1).val < 0 + 256
      omega

/-! ## The arrays -/

/-- An array of no particular contents. -/
def anyVec (s : Shape) (e : EltTy) : Vec F s e := fun _ => Classical.arbitrary _

/-- The operator's copy: every row as its point stores it. -/
def copyL (c : Dev nD) : Vec F S4096x4096 .bf16 := fun y =>
  next12 (grid0.coords (ptOf (y 0))) (iblk m c 0 (ptOf (y 0))) (anyVec _ _) y

/-- The normalised input. -/
def T0 (c : Dev nD) : Vec F S4096x256 .bf16 := first13 (iblk m c 1 pt0) (iblk m c 4 pt0) (iblk m c 5 pt0)

/-- The normalisation's scale and offset rows. -/
def rows (c : Dev nD) : Vec F S2x256 .f32 := first17 (iblk m c 1 pt0) (iblk m c 4 pt0) (iblk m c 5 pt0) (anyVec _ _)

/-- The operator times the normalised input. -/
def T1 (c : Dev nD) : Vec F S4096x256 .bf16 := fun y =>
  next14 (grid0.coords (ptOf (y 0))) (iblk m c 0 (ptOf (y 0))) (T0 m c) (anyVec _ _) y

/-- The first two terms of the first layer. -/
def acc01 (c : Dev nD) : Vec F S4096x256 .f32 := fun y =>
  next16 (grid0.coords (ptOf (y 0))) (iblk m c 0 (ptOf (y 0))) (iblk m c 2 (ptOf (y 0))) (T0 m c) (anyVec _ _) y

/-- The normalisation's rows do not depend on what the buffer held. -/
theorem first17_any (x1 : Vec F S4096x256 .f32) (x4 x5 : Vec F S1x256 .f32) (s s' : Vec F S2x256 .f32) : first17 x1 x4 x5 s = first17 x1 x4 x5 s' := by
  funext y
  unfold first17
  have h1 : (y 1).val < 256 := (y 1).isLt
  have h0 : (y 0).val < 2 := (y 0).isLt
  by_cases h : (y 0).val = 1
  · refine put_in _ _ _ _ _ y fun a => ?_
    fin_cases a
    · show 1 ≤ (y 0).val ∧ (y 0).val < 1 + 1
      omega
    · show 0 ≤ (y 1).val ∧ (y 1).val < 0 + 256
      omega
  · have ho : ¬∀ a, (![1, 0] : Fin 2 → ℕ) a ≤ (y a).val ∧ (y a).val < (![1, 0] : Fin 2 → ℕ) a + S1x256.size a := fun hh => by
      have h2 : 1 ≤ (y 0).val ∧ (y 0).val < 1 + 1 := hh 0
      omega
    rw [put_out _ _ _ _ y ho, put_out _ _ _ _ y ho]
    refine put_in _ _ _ _ _ y fun a => ?_
    fin_cases a
    · show 0 ≤ (y 0).val ∧ (y 0).val < 0 + 1
      omega
    · show 0 ≤ (y 1).val ∧ (y 1).val < 0 + 256
      omega

/-! ## The state before a point -/

/-- Before point `n` the rows under 256 n of the three arrays written row by row are in place. -/
def Filled (c : Dev nD) (n : ℕ) (s12 : Vec F S4096x4096 .bf16) (s14 : Vec F S4096x256 .bf16) (s16 : Vec F S4096x256 .f32) : Prop :=
  (∀ y : S4096x4096.Idx, (y 0).val / 256 < n → s12 y = copyL m c y) ∧ (∀ y : S4096x256.Idx, (y 0).val / 256 < n → s14 y = T1 m c y)
    ∧ ∀ y : S4096x256.Idx, (y 0).val / 256 < n → s16 y = acc01 m c y

theorem filled_zero (c : Dev nD) (s12 : Vec F S4096x4096 .bf16) (s14 : Vec F S4096x256 .bf16) (s16 : Vec F S4096x256 .f32) : Filled m c 0 s12 s14 s16 :=
  ⟨fun y h => absurd h (Nat.not_lt_zero _), fun y h => absurd h (Nat.not_lt_zero _), fun y h => absurd h (Nat.not_lt_zero _)⟩

/-- A point fills its rows. -/
theorem filled_succ (c : Dev nD) (t : Fin cfg0.N) (s12 : Vec F S4096x4096 .bf16) (s14 : Vec F S4096x256 .bf16) (s16 : Vec F S4096x256 .f32)
    (h : Filled m c t.val s12 s14 s16) :
    Filled m c (t.val + 1) (next12 (grid0.coords t) (iblk m c 0 t) s12) (next14 (grid0.coords t) (iblk m c 0 t) (T0 m c) s14)
      (next16 (grid0.coords t) (iblk m c 0 t) (iblk m c 2 t) (T0 m c) s16) := by
  refine ⟨fun y hy => ?_, fun y hy => ?_, fun y hy => ?_⟩
  · by_cases e : (y 0).val / 256 = t.val
    · have ep : ptOf (y 0) = t := Fin.ext e
      unfold copyL
      rw [ep]
      exact put_in _ _ _ _ _ y ((in1 t y).2 e)
    · exact (put_out _ _ _ _ y (fun hh => e ((in1 t y).1 hh))).trans (h.1 y (by omega))
  · by_cases e : (y 0).val / 256 = t.val
    · have ep : ptOf (y 0) = t := Fin.ext e
      unfold T1
      rw [ep]
      exact put_in _ _ _ _ _ y ((in2 t y).2 e)
    · exact (put_out _ _ _ _ y (fun hh => e ((in2 t y).1 hh))).trans (h.2.1 y (by omega))
  · by_cases e : (y 0).val / 256 = t.val
    · have ep : ptOf (y 0) = t := Fin.ext e
      unfold acc01
      rw [ep]
      exact put_in _ _ _ _ _ y ((in2 t y).2 e)
    · exact (put_out _ _ _ _ y (fun hh => e ((in2 t y).1 hh))).trans (h.2.2 y (by omega))

/-- After the last point's rows the arrays are whole. -/
theorem filled_all (c : Dev nD) (n : ℕ) (hn : n = 16) (s12 : Vec F S4096x4096 .bf16) (s14 : Vec F S4096x256 .bf16) (s16 : Vec F S4096x256 .f32)
    (h : Filled m c n s12 s14 s16) : s12 = copyL m c ∧ s14 = T1 m c ∧ s16 = acc01 m c := by
  subst hn
  refine ⟨funext fun y => h.1 y ?_, funext fun y => h.2.1 y ?_, funext fun y => h.2.2 y ?_⟩ <;>
    · have : (y 0).val < 4096 := (y 0).isLt
      omega

/-! ## The buffers -/

abbrev stg0 (t : Fin cfg0.N) : Memref sig .tc .vmem S256x4096 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S4096x256 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S4x256x256 .bf16 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x256 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S1x256 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x256 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S4x256x256 .bf16 := win0_6.stage (cfg0.slots t 6)
abbrev stg6_whole (t : Fin cfg0.N) : (stg6 t).IsWhole := hstage0_6 ((cfg0.slots t 6).cast nbuf0_6)
abbrev stg7 (t : Fin cfg0.N) : Memref sig .tc .vmem S1x256 .f32 := win0_7.stage (cfg0.slots t 7)
abbrev stg7_whole (t : Fin cfg0.N) : (stg7 t).IsWhole := hstage0_7 ((cfg0.slots t 7).cast nbuf0_7)
abbrev stg8 (t : Fin cfg0.N) : Memref sig .tc .vmem S1x256 .f32 := win0_8.stage (cfg0.slots t 8)
abbrev stg8_whole (t : Fin cfg0.N) : (stg8 t).IsWhole := hstage0_8 ((cfg0.slots t 8).cast nbuf0_8)
abbrev stg9 (t : Fin cfg0.N) : Memref sig .tc .vmem S1x256 .f32 := win0_9.stage (cfg0.slots t 9)
abbrev stg9_whole (t : Fin cfg0.N) : (stg9 t).IsWhole := hstage0_9 ((cfg0.slots t 9).cast nbuf0_9)
abbrev stg10 (t : Fin cfg0.N) : Memref sig .tc .vmem S4096x256 .f32 := win0_10.stage (cfg0.slots t 10)
abbrev stg10_whole (t : Fin cfg0.N) : (stg10 t).IsWhole := hstage0_10 ((cfg0.slots t 10).cast nbuf0_10)
abbrev scr12 : Memref sig .tc .vmem S4096x4096 .bf16 := Memref.whole cc0_scratch0
abbrev scr13 : Memref sig .tc .vmem S4096x256 .bf16 := Memref.whole cc0_scratch1
abbrev scr14 : Memref sig .tc .vmem S4096x256 .bf16 := Memref.whole cc0_scratch2
abbrev scr15 : Memref sig .tc .vmem S4096x256 .bf16 := Memref.whole cc0_scratch3
abbrev scr16 : Memref sig .tc .vmem S4096x256 .f32 := Memref.whole cc0_scratch4
abbrev scr17 : Memref sig .tc .vmem S2x256 .f32 := Memref.whole cc0_scratch5

/-- The pieces the last point writes over the output's staging buffer. -/
def outPieces (c : Dev nD) (t : Fin cfg0.N) : List (View.Piece (Elt F) S4096x256 .f32) :=
  (lastRun c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) scr12 (Memref.isWhole_whole _) scr13 (Memref.isWhole_whole _) scr14 (Memref.isWhole_whole _) scr15 (Memref.isWhole_whole _) scr16 (Memref.isWhole_whole _) scr17 (Memref.isWhole_whole _) (iblk m c 1 t) (iblk m c 2 t) (iblk m c 3 t) (iblk m c 4 t) (iblk m c 5 t) (iblk m c 6 t) (iblk m c 7 t) (iblk m c 8 t) (iblk m c 9 t) (copyL m c) (T0 m c) (T1 m c) (acc01 m c) (rows m c)).1

theorem outPieces_cover (c : Dev nD) (t : Fin cfg0.N) (y : S4096x256.Idx) : ∃ p ∈ outPieces m c t, y ∈ p.1.set :=
  View.cover_of_tiledL (outPieces m c t) S1024x256.size (by sl_kernel_rfl) y

/-- What the last point leaves in the output's staging buffer. -/
def outAt (c : Dev nD) (t : Fin cfg0.N) : Vec F S4096x256 .f32 :=
  (stg10 t).view.read (Elt F) ((stg10 t).view.writes (Elt F) (stg10 t).view.junk (outPieces m c t))

/-- The last point's pieces cover the output's staging buffer, whatever it held. -/
theorem outAt_eq (c : Dev nD) (t : Fin cfg0.N) (f : (stg10 t).view.ty.Contents (Elt F)) :
    (stg10 t).view.read (Elt F) ((stg10 t).view.writes (Elt F) f (outPieces m c t)) = outAt m c t :=
  View.read_writes_of_cover _ _ _ _ _ (outPieces_cover m c t)

/-- The state a point finds and leaves: before the first and after the last, the scratch at anything; between, the arrays filled as far as the point. -/
def Inv (c : Dev nD) (n : ℕ) : sProp 𝕄 :=
  if n = 0 ∨ n = 16 then Pipeline.ΦA spec0 c
  else iprop((∃ s12 s14 s16, ⌜Filled m c n s12 s14 s16⌝ ∗ owns (c : Thread nD τ) scr12 fullShare s12 ∗ owns (c : Thread nD τ) scr13 fullShare (T0 m c) ∗ owns (c : Thread nD τ) scr14 fullShare s14 ∗ (∃ d, owns (c : Thread nD τ) scr15 fullShare d) ∗ owns (c : Thread nD τ) scr16 fullShare s16 ∗ owns (c : Thread nD τ) scr17 fullShare (rows m c))
    ∗ (∃ r, prngReg c r))

theorem Inv_end (c : Dev nD) (n : ℕ) (h : n = 0 ∨ n = 16) : Inv m c n = (Pipeline.ΦA spec0 c : sProp 𝕄) := if_pos h

theorem Inv_mid (c : Dev nD) (n : ℕ) (h : ¬(n = 0 ∨ n = 16)) : Inv m c n =
    (iprop((∃ s12 s14 s16, ⌜Filled m c n s12 s14 s16⌝ ∗ owns (c : Thread nD τ) scr12 fullShare s12 ∗ owns (c : Thread nD τ) scr13 fullShare (T0 m c) ∗ owns (c : Thread nD τ) scr14 fullShare s14 ∗ (∃ d, owns (c : Thread nD τ) scr15 fullShare d) ∗ owns (c : Thread nD τ) scr16 fullShare s16 ∗ owns (c : Thread nD τ) scr17 fullShare (rows m c))
    ∗ (∃ r, prngReg c r)) : sProp 𝕄) := if_neg h

/-- The scratch at anything, buffer by buffer. -/
theorem anyScratch_eq (c : Dev nD) : (Pipeline.ΦA spec0 c : sProp 𝕄)
    = iprop(iprop((∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d) ∗ (∃ d, owns (c : Thread nD τ) scr16 fullShare d) ∗ (∃ d, owns (c : Thread nD τ) scr17 fullShare d)) ∗ (∃ r, prngReg c r)) := by
  unfold Pipeline.ΦA; rw [scopedRest0_eq]; simp only [scr12, scr13, scr14, scr15, scr16, scr17, owns_whole]; try rfl

end Cert.KernelIdeal.Hand

end
-- ==== Proof.FrameI.lean ====
/-
  The launch from the body's runs: the state between points carried through the sixteen points, the obligation of the
  body at each, and what follows — the program ends, faults nowhere, leaves its arguments and every semaphore counter as
  they were, and its output array is the last point's.
-/
module

public import Idealize.ShloMosaic.Lib.Claim
public import proofs.«01_k».proof.Proof.StateI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The data of the launch -/

/-- What each window's staging buffer holds after a point (the inputs their blocks, the output the last point's array),
    and the state between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := Inv m c t.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d

theorem leaves_0 (c : Dev nD) (t : Fin cfg0.N) : (dats m 0 c).leavesExact 0 t = owns (c : Thread nD τ) (stg0 t) fullShare (iblk m c 0 t) := by
  unfold Dat.leavesExact; rw [show cfg0.idle 0 (grid0.coords t) = false from rfl]; dsimp only [dats]
theorem leaves_1 (c : Dev nD) (t : Fin cfg0.N) : (dats m 0 c).leavesExact 1 t = owns (c : Thread nD τ) (stg1 t) fullShare (iblk m c 1 t) := by
  unfold Dat.leavesExact; rw [show cfg0.idle 1 (grid0.coords t) = false from rfl]; dsimp only [dats]
theorem leaves_2 (c : Dev nD) (t : Fin cfg0.N) : (dats m 0 c).leavesExact 2 t = owns (c : Thread nD τ) (stg2 t) fullShare (iblk m c 2 t) := by
  unfold Dat.leavesExact; rw [show cfg0.idle 2 (grid0.coords t) = false from rfl]; dsimp only [dats]
theorem leaves_3 (c : Dev nD) (t : Fin cfg0.N) : (dats m 0 c).leavesExact 3 t = owns (c : Thread nD τ) (stg3 t) fullShare (iblk m c 3 t) := by
  unfold Dat.leavesExact; rw [show cfg0.idle 3 (grid0.coords t) = false from rfl]; dsimp only [dats]
theorem leaves_4 (c : Dev nD) (t : Fin cfg0.N) : (dats m 0 c).leavesExact 4 t = owns (c : Thread nD τ) (stg4 t) fullShare (iblk m c 4 t) := by
  unfold Dat.leavesExact; rw [show cfg0.idle 4 (grid0.coords t) = false from rfl]; dsimp only [dats]
theorem leaves_5 (c : Dev nD) (t : Fin cfg0.N) : (dats m 0 c).leavesExact 5 t = owns (c : Thread nD τ) (stg5 t) fullShare (iblk m c 5 t) := by
  unfold Dat.leavesExact; rw [show cfg0.idle 5 (grid0.coords t) = false from rfl]; dsimp only [dats]
theorem leaves_6 (c : Dev nD) (t : Fin cfg0.N) : (dats m 0 c).leavesExact 6 t = owns (c : Thread nD τ) (stg6 t) fullShare (iblk m c 6 t) := by
  unfold Dat.leavesExact; rw [show cfg0.idle 6 (grid0.coords t) = false from rfl]; dsimp only [dats]
theorem leaves_7 (c : Dev nD) (t : Fin cfg0.N) : (dats m 0 c).leavesExact 7 t = owns (c : Thread nD τ) (stg7 t) fullShare (iblk m c 7 t) := by
  unfold Dat.leavesExact; rw [show cfg0.idle 7 (grid0.coords t) = false from rfl]; dsimp only [dats]
theorem leaves_8 (c : Dev nD) (t : Fin cfg0.N) : (dats m 0 c).leavesExact 8 t = owns (c : Thread nD τ) (stg8 t) fullShare (iblk m c 8 t) := by
  unfold Dat.leavesExact; rw [show cfg0.idle 8 (grid0.coords t) = false from rfl]; dsimp only [dats]
theorem leaves_9 (c : Dev nD) (t : Fin cfg0.N) : (dats m 0 c).leavesExact 9 t = owns (c : Thread nD τ) (stg9 t) fullShare (iblk m c 9 t) := by
  unfold Dat.leavesExact; rw [show cfg0.idle 9 (grid0.coords t) = false from rfl]; dsimp only [dats]

/-- Before the last point the output's window is idle and is not written back. -/
theorem idle_10 : ∀ t : Fin cfg0.N, ¬isLast (grid0.coords t) → cfg0.idle 10 (grid0.coords t) = true := by decide +kernel
theorem noFlush_10 : ∀ t : Fin cfg0.N, ¬isLast (grid0.coords t) → (cfg0.win 10).flush t = false := by decide +kernel
/-- At the last point it is live. -/
theorem live_10 : ∀ t : Fin cfg0.N, isLast (grid0.coords t) → cfg0.idle 10 (grid0.coords t) = false := by decide +kernel

theorem leaves_10_last (c : Dev nD) (t : Fin cfg0.N) (h : isLast (grid0.coords t)) :
    (dats m 0 c).leavesExact 10 t = owns (c : Thread nD τ) (stg10 t) fullShare (outAt m c t) := by
  unfold Dat.leavesExact; rw [live_10 t h]; dsimp only [dats]

/-! ## The body at a point -/

def bodyPre (c : Dev nD) (t : Fin cfg0.N) : sProp 𝕄 :=
  iprop(Inv m c t.val ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

def bodyPost (c : Dev nD) (t : Fin cfg0.N) : sProp 𝕄 :=
  iprop(Inv m c (t.val + 1) ∗ (dats m 0 c).owesAt () t.castSucc
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 3200000 in
/-- The first point. -/
theorem body_first (c : Dev nD) (t : Fin cfg0.N) (h0 : isFirst (grid0.coords t)) (h1 : ¬isLast (grid0.coords t)) :
    bodyPre m c t ⊢ wp frame (wpE (defs₀ (F := F)) Variants.none c none) Set.univ (bodyAt0 t) (fun _ => bodyPost m c t) := by
  have hz : t.val = 0 := (isFirst_iff t).1 h0
  have ht : t = pt0 := Fin.ext hz
  have hI : Inv m c (t.val + 1) = _ := Inv_mid (F := F) m c (t.val + 1) (by omega)
  unfold bodyPre bodyPost bodyAt0
  simp only [before_0, leaves_0, before_1, leaves_1, before_2, leaves_2, before_3, leaves_3, before_4, leaves_4, before_5, leaves_5, before_6, leaves_6, before_7, leaves_7, before_8, leaves_8, before_9, leaves_9]
  rw [Dat.leavesExact_idle (dats m 0 c) 10 t (idle_10 t h1) (noFlush_10 t h1), hI, Inv_end m c t.val (.inl hz), anyScratch_eq, body_split, if_neg h1]
  rw [Idealize.SL.Sem.wp_bind]
  iintro ⟨⟨⟨⟨%s12, S12⟩, ⟨%s13, S13⟩, ⟨%s14, S14⟩, S15, ⟨%s16, S16⟩, ⟨%s17, S17⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (step_first c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) scr12 (Memref.isWhole_whole _) scr13 (Memref.isWhole_whole _) scr14 (Memref.isWhole_whole _) scr15 (Memref.isWhole_whole _) scr16 (Memref.isWhole_whole _) scr17 (Memref.isWhole_whole _) h0 (iblk m c 0 t) (iblk m c 1 t) (iblk m c 2 t) (iblk m c 4 t) (iblk m c 5 t) s12 s13 s14 s16 s17 Set.univ _)
  isplitl [H0]; · iexact H0
  isplitl [H1]; · iexact H1
  isplitl [H2]; · iexact H2
  isplitl [H4]; · iexact H4
  isplitl [H5]; · iexact H5
  isplitl [S12]; · iexact S12
  isplitl [S13]; · iexact S13
  isplitl [S14]; · iexact S14
  isplitl [S16]; · iexact S16
  isplitl [S17]; · iexact S17
  iintro ⟨H0, H1, H2, H4, H5, S12, S13, S14, S16, S17⟩
  sl_step
  isplitl [S12 S13 S14 S15 S16 S17 Hg]
  · isplitl [S12 S13 S14 S15 S16 S17]
    · iexists _, _, _
      isplitr
      · ipureintro
        exact filled_succ m c t s12 s14 s16 (hz ▸ filled_zero m c s12 s14 s16)
      subst ht
      rw [first17_any _ _ _ s17 (anyVec _ _)]
      isplitl [S12]; · iexact S12
      isplitl [S13]; · iexact S13
      isplitl [S14]; · iexact S14
      isplitl [S15]; · iexact S15
      isplitl [S16]; · iexact S16
      iexact S17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 3200000 in
/-- A point between the first and the last. -/
theorem body_next (c : Dev nD) (t : Fin cfg0.N) (h0 : ¬isFirst (grid0.coords t)) (h1 : ¬isLast (grid0.coords t)) :
    bodyPre m c t ⊢ wp frame (wpE (defs₀ (F := F)) Variants.none c none) Set.univ (bodyAt0 t) (fun _ => bodyPost m c t) := by
  have hz : t.val ≠ 0 := fun h => h0 ((isFirst_iff t).2 h)
  have hl : t.val ≠ 15 := fun h => h1 ((isLast_iff t).2 h)
  have ht : t.val < 16 := Nat.lt_of_lt_of_eq t.isLt N_0
  unfold bodyPre bodyPost bodyAt0
  simp only [before_0, leaves_0, before_1, leaves_1, before_2, leaves_2, before_3, leaves_3, before_4, leaves_4, before_5, leaves_5, before_6, leaves_6, before_7, leaves_7, before_8, leaves_8, before_9, leaves_9]
  rw [Dat.leavesExact_idle (dats m 0 c) 10 t (idle_10 t h1) (noFlush_10 t h1), Inv_mid m c (t.val + 1) (by omega), Inv_mid m c t.val (by omega), body_split, if_neg h1]
  rw [Idealize.SL.Sem.wp_bind]
  iintro ⟨⟨⟨%s12, %s14, %s16, %hf, S12, S13, S14, S15, S16, S17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (step_next c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) scr12 (Memref.isWhole_whole _) scr13 (Memref.isWhole_whole _) scr14 (Memref.isWhole_whole _) scr15 (Memref.isWhole_whole _) scr16 (Memref.isWhole_whole _) scr17 (Memref.isWhole_whole _) h0 (iblk m c 0 t) (iblk m c 2 t) s12 (T0 m c) s14 s16 Set.univ _)
  isplitl [H0]; · iexact H0
  isplitl [H2]; · iexact H2
  isplitl [S12]; · iexact S12
  isplitl [S13]; · iexact S13
  isplitl [S14]; · iexact S14
  isplitl [S16]; · iexact S16
  iintro ⟨H0, H2, S12, S13, S14, S16⟩
  sl_step
  isplitl [S12 S13 S14 S15 S16 S17 Hg]
  · isplitl [S12 S13 S14 S15 S16 S17]
    · iexists _, _, _
      isplitr
      · ipureintro
        exact filled_succ m c t s12 s14 s16 hf
      isplitl [S12]; · iexact S12
      isplitl [S13]; · iexact S13
      isplitl [S14]; · iexact S14
      isplitl [S15]; · iexact S15
      isplitl [S16]; · iexact S16
      iexact S17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 3200000 in
/-- The last point. -/
theorem body_last (c : Dev nD) (t : Fin cfg0.N) (h0 : ¬isFirst (grid0.coords t)) (h1 : isLast (grid0.coords t)) :
    bodyPre m c t ⊢ wp frame (wpE (defs₀ (F := F)) Variants.none c none) Set.univ (bodyAt0 t) (fun _ => bodyPost m c t) := by
  have hl : t.val = 15 := (isLast_iff t).1 h1
  unfold bodyPre bodyPost bodyAt0
  simp only [before_0, leaves_0, before_1, leaves_1, before_2, leaves_2, before_3, leaves_3, before_4, leaves_4, before_5, leaves_5, before_6, leaves_6, before_7, leaves_7, before_8, leaves_8, before_9, leaves_9]
  rw [leaves_10_last m c t h1, Inv_end m c (t.val + 1) (.inr (by omega)), Inv_mid m c t.val (by omega), anyScratch_eq, body_split, if_pos h1]
  rw [Idealize.SL.Sem.wp_bind]
  iintro ⟨⟨⟨%s12, %s14, %s16, %hf, S12, S13, S14, S15, S16, S17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (step_next c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) scr12 (Memref.isWhole_whole _) scr13 (Memref.isWhole_whole _) scr14 (Memref.isWhole_whole _) scr15 (Memref.isWhole_whole _) scr16 (Memref.isWhole_whole _) scr17 (Memref.isWhole_whole _) h0 (iblk m c 0 t) (iblk m c 2 t) s12 (T0 m c) s14 s16 Set.univ _)
  isplitl [H0]; · iexact H0
  isplitl [H2]; · iexact H2
  isplitl [S12]; · iexact S12
  isplitl [S13]; · iexact S13
  isplitl [S14]; · iexact S14
  isplitl [S16]; · iexact S16
  iintro ⟨H0, H2, S12, S13, S14, S16⟩
  obtain ⟨e12, e14, e16⟩ := filled_all m c (t.val + 1) (by omega) _ _ _ (filled_succ m c t s12 s14 s16 hf)
  rw [e12, e14, e16]
  iapply ((lastRun c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) scr12 (Memref.isWhole_whole _) scr13 (Memref.isWhole_whole _) scr14 (Memref.isWhole_whole _) scr15 (Memref.isWhole_whole _) scr16 (Memref.isWhole_whole _) scr17 (Memref.isWhole_whole _) (iblk m c 1 t) (iblk m c 2 t) (iblk m c 3 t) (iblk m c 4 t) (iblk m c 5 t) (iblk m c 6 t) (iblk m c 7 t) (iblk m c 8 t) (iblk m c 9 t) (copyL m c) (T0 m c) (T1 m c) (acc01 m c) (rows m c)).2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S12]; · iexact S12
  isplitl [S13]; · iexact S13
  isplitl [S14]; · iexact S14
  isplitl [S15]; · iexact S15
  isplitl [S16]; · iexact S16
  isplitl [S17]; · iexact S17
  iintro ⟨H1, H2, H3, H4, H5, H6, H7, H8, H9, ⟨%f10, H10⟩, S12, S13, S14, S15, S16, S17⟩
  isplitl [S12 S13 S14 S15 S16 S17 Hg]
  · isplitl [S12 S13 S14 S15 S16 S17]
    · isplitl [S12]; · iexists _; iexact S12
      isplitl [S13]; · iexact S13
      isplitl [S14]; · iexact S14
      isplitl [S15]; · iexact S15
      isplitl [S16]; · iexact S16
      iexists _; iexact S17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro
  exact outAt_eq m c t f10

/-- The body at any point. -/
theorem body_any (c : Dev nD) (t : Fin cfg0.N) :
    bodyPre m c t ⊢ wp frame (wpE (defs₀ (F := F)) Variants.none c none) Set.univ (bodyAt0 t) (fun _ => bodyPost m c t) := by
  by_cases h0 : isFirst (grid0.coords t)
  · refine body_first m c t h0 fun h1 => ?_
    have := (isFirst_iff t).1 h0
    have := (isLast_iff t).1 h1
    omega
  · by_cases h1 : isLast (grid0.coords t)
    · exact body_last m c t h0 h1
    · exact body_next m c t h0 h1

/-! ## The launch -/

theorem defs₀_row (t : Fin cfg0.N) : defs₀ (F := F) .tc cfg0.body (cfg0.bodyArgs t (cfg0.slots t)) = bodyAt0 t := by
  unfold defs₀; rw [Defs.onTc_tc]

set_option maxHeartbeats 1600000 in
theorem body_obligation (c : Dev nD) : BodyObligation (dats m 0 c) (defs₀ (F := F)) Variants.none () Set.univ := fun t => by
  rw [bigSep_W0, bigSep_W0, defs₀_row]
  exact triple_restated (body_any m c t) rfl .rfl fun _ => .rfl

theorem hin (c : Dev nD) : Pipeline.ΦA spec0 c ⊢ (dats m 0 c).Φ 0 := by
  rw [show (dats m 0 c).Φ 0 = Inv m c 0 from rfl, Inv_end m c 0 (.inl rfl)]

theorem hout (c : Dev nD) : (dats m 0 c).Φ (Fin.last cfg0.N) ⊢ Pipeline.ΦA spec0 c := by
  rw [show (dats m 0 c).Φ (Fin.last cfg0.N) = Inv m c cfg0.N from rfl, Inv_end m c cfg0.N (.inr N_eq)]

set_option backward.isDefEq.respectTransparency.types false in
/-- The launch: @main runs to its end, the arrays end as the data say, and every semaphore counter is zero. -/
theorem run_main_quiescent : θ_run (defs (F := F)) (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 (defs₀ (F := F)) Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run (defs (F := F)) (onTc (τ := τ) (main (F := F))) (s₀ m ρ) (Pipeline.FramePost cfgs (dats m) 0 (V m)) :=
  (θ_run _ _ _).mono (fun _ h => h.1) (run_main_quiescent m ρ)

/-- The frame: @main runs to its end, its arguments and every semaphore counter as they were. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) ∧ r.2.sem = fun _ => 0) :=
  θ_run_and (frame_of m ρ (dats m) (A_eq m) (run_main m ρ)) ((θ_run _ _ _).mono (fun _ h => h.2) (run_main_quiescent m ρ))

end Cert.KernelIdeal.Hand

end
-- ==== Proof.Tiles.lean ====
/-
  Exact arithmetic on matrices, and the boxes of 1024 rows of a stored array: what the last point computes tile by tile,
  as statements about whole matrices.
-/
module

public import Idealize.ShloMosaic.Lib.Pointwise
public import Idealize.ShloMosaic.Lib.Pipeline.ValueKit
public import proofs.«01_k».proof.Proof.StepI

@[expose] public section

set_option maxRecDepth 16384

noncomputable section

open Idealize.ShloMosaic Idealize.ShloMosaic.TcCoe Idealize.SL.Sem

namespace Cert.KernelIdeal.Hand

open Cert.KernelIdeal Cert.KernelIdeal.Gen

open VecWindow (put window)

/-! ## Matrices -/

/-- The product of two matrices. -/
def prod {n k m : ℕ} (A : Fin n → Fin k → EReal) (B : Fin k → Fin m → EReal) : Fin n → Fin m → EReal := fun i j => ∑ x, A i x * B x j

/-- The next term of the recursion: twice the operator on the last term, less the one before. -/
def cheb {n m : ℕ} (two : EReal) (L : Fin n → Fin n → EReal) (A B : Fin n → Fin m → EReal) : Fin n → Fin m → EReal :=
  fun i j => two * prod L A i j - B i j

/-- The numeral 2.0 as the kernel spells it. -/
abbrev two : EReal := Ideal.ofBits .bf16 0x4000#16

theorem le0 : 0 + 1024 ≤ 4096 := by decide
theorem le1 : 1024 + 1024 ≤ 4096 := by decide
theorem le2 : 2048 + 1024 ≤ 4096 := by decide
theorem le3 : 3072 + 1024 ≤ 4096 := by decide

/-- Row `o + r` of the array, of a tile of 1024 rows. -/
def row (o : ℕ) (ho : o + 1024 ≤ 4096) (r : Fin 1024) : Fin 4096 := ⟨o + r.val, by omega⟩

/-- An array reads a matrix. -/
def Reads {α : Type} {n m : ℕ} (w : (⟨2, ![n, m]⟩ : Shape).Idx → α) (G : Fin n → Fin m → α) : Prop := ∀ k l, w (ix2 k l) = G k l

/-- A tile reads the matrix's rows from `o` on. -/
def Tile {α : Type} (o : ℕ) (ho : o + 1024 ≤ 4096) {m : ℕ} (w : (⟨2, ![1024, m]⟩ : Shape).Idx → α) (G : Fin 4096 → Fin m → α) : Prop :=
  ∀ r l, w (ix2 r l) = G (row o ho r) l

/-- One row reads a vector. -/
def Row {α : Type} {m : ℕ} (w : (⟨2, ![1, m]⟩ : Shape).Idx → α) (b : Fin m → α) : Prop := ∀ l, w (ix2 0 l) = b l

/-- The matrix of an array. -/
def mat {α : Type} {n m : ℕ} (w : (⟨2, ![n, m]⟩ : Shape).Idx → α) : Fin n → Fin m → α := fun k l => w (ix2 k l)

/-- The four weights of an array. -/
def wts (w : (⟨3, ![4, 256, 256]⟩ : Shape).Idx → EReal) : Fin 4 → Fin 256 → Fin 256 → EReal := fun a k l => w (ix3 a k l)

/-- A sum over the rows is the sum over the four tiles. -/
theorem sum_rows (f : Fin 4096 → EReal) : ∑ k, f k
    = ((∑ r, f (row 0 le0 r) + ∑ r, f (row 1024 le1 r)) + ∑ r, f (row 2048 le2 r)) + ∑ r, f (row 3072 le3 r) := by
  rw [Fin.sum_univ_tiles 4 1024 rfl f, Fin.sum_univ_four]
  rfl

/-! ## Boxes -/

section Boxes

variable {sp : Space} {e : EltTy}

theorem read_hit (v : View sig .tc sp S4096x256 e) (f : v.ty.Contents (Elt Ideal)) (o : ℕ) (ho : o + 1024 ≤ 4096)
    (inb : ∀ a : Fin 2, (![o, 0] : Fin 2 → ℕ) a + S1024x256.size a ≤ S4096x256.size a) (w : Vec Ideal S1024x256 e)
    (L : List (View.Piece (Elt Ideal) S4096x256 e)) (r : Fin 1024) (l : Fin 256) :
    v.read (Elt Ideal) (v.writes (Elt Ideal) f (⟨Rect.unit ![o, 0] S1024x256.size inb, w⟩ :: L)) (ix2 (row o ho r) l) = w (ix2 r l) :=
  View.read_writes_cons_rows_of_mem v f inb w L (ix2 (row o ho r) l) (ix2 r l) rfl rfl rfl

theorem read_miss (v : View sig .tc sp S4096x256 e) (f : v.ty.Contents (Elt Ideal)) (o : ℕ)
    (inb : ∀ a : Fin 2, (![o, 0] : Fin 2 → ℕ) a + S1024x256.size a ≤ S4096x256.size a) (w : Vec Ideal S1024x256 e)
    (L : List (View.Piece (Elt Ideal) S4096x256 e)) (k : Fin 4096) (l : Fin 256) (h : k.val < o ∨ o + 1024 ≤ k.val) :
    v.read (Elt Ideal) (v.writes (Elt Ideal) f (⟨Rect.unit ![o, 0] S1024x256.size inb, w⟩ :: L)) (ix2 k l) = v.read (Elt Ideal) (v.writes (Elt Ideal) f L) (ix2 k l) :=
  View.read_writes_cons_rows_of_not_mem v f inb w L (ix2 k l) rfl rfl h

/-- The four tiles stored last, whatever was stored before. -/
theorem tiles4 (v : View sig .tc sp S4096x256 e) (f : v.ty.Contents (Elt Ideal)) (w0 w1 w2 w3 : Vec Ideal S1024x256 e)
    (inb0 : ∀ a : Fin 2, (![0, 0] : Fin 2 → ℕ) a + S1024x256.size a ≤ S4096x256.size a)
    (inb1 : ∀ a : Fin 2, (![1024, 0] : Fin 2 → ℕ) a + S1024x256.size a ≤ S4096x256.size a)
    (inb2 : ∀ a : Fin 2, (![2048, 0] : Fin 2 → ℕ) a + S1024x256.size a ≤ S4096x256.size a)
    (inb3 : ∀ a : Fin 2, (![3072, 0] : Fin 2 → ℕ) a + S1024x256.size a ≤ S4096x256.size a)
    (L : List (View.Piece (Elt Ideal) S4096x256 e)) (G : Fin 4096 → Fin 256 → Elt Ideal e)
    (h0 : Tile 0 le0 w0 G) (h1 : Tile 1024 le1 w1 G)
    (h2 : Tile 2048 le2 w2 G) (h3 : Tile 3072 le3 w3 G) (k : Fin 4096) (l : Fin 256) :
    v.read (Elt Ideal) (v.writes (Elt Ideal) f (⟨Rect.unit ![3072, 0] S1024x256.size inb3, w3⟩ :: ⟨Rect.unit ![2048, 0] S1024x256.size inb2, w2⟩
      :: ⟨Rect.unit ![1024, 0] S1024x256.size inb1, w1⟩ :: ⟨Rect.unit ![0, 0] S1024x256.size inb0, w0⟩ :: L)) (ix2 k l) = G k l := by
  have hk := k.isLt
  by_cases c3 : 3072 ≤ k.val
  · obtain ⟨r, rfl⟩ : ∃ r, k = row 3072 le3 r := ⟨⟨k.val - 3072, by omega⟩, Fin.ext (by show k.val = 3072 + (k.val - 3072); omega)⟩
    rw [read_hit, h3 r l]
  rw [read_miss v f 3072 inb3 _ _ _ _ (by omega)]
  by_cases c2 : 2048 ≤ k.val
  · obtain ⟨r, rfl⟩ : ∃ r, k = row 2048 le2 r := ⟨⟨k.val - 2048, by omega⟩, Fin.ext (by show k.val = 2048 + (k.val - 2048); omega)⟩
    rw [read_hit, h2 r l]
  rw [read_miss v f 2048 inb2 _ _ _ _ (by omega)]
  by_cases c1 : 1024 ≤ k.val
  · obtain ⟨r, rfl⟩ : ∃ r, k = row 1024 le1 r := ⟨⟨k.val - 1024, by omega⟩, Fin.ext (by show k.val = 1024 + (k.val - 1024); omega)⟩
    rw [read_hit, h1 r l]
  rw [read_miss v f 1024 inb1 _ _ _ _ (by omega)]
  obtain ⟨r, rfl⟩ : ∃ r, k = row 0 le0 r := ⟨⟨k.val, by omega⟩, Fin.ext (by show k.val = 0 + k.val; omega)⟩
  rw [read_hit, h0 r l]

/-- A load of 1024 rows after stores, of which the state is known there. -/
theorem cov_tile (v : View sig .tc sp S4096x256 e) (o : ℕ) (ho : o + 1024 ≤ 4096)
    (inb : ∀ a : Fin 2, (![o, 0] : Fin 2 → ℕ) a + S1024x256.size a ≤ S4096x256.size a)
    (L : List (View.Piece (Elt Ideal) S4096x256 e)) (G : Fin 4096 → Fin 256 → Elt Ideal e)
    (h : ∀ r l, v.read (Elt Ideal) (v.writes (Elt Ideal) v.junk L) (ix2 (row o ho r) l) = G (row o ho r) l) :
    Tile o ho (v.readCov L (Rect.unit (s := S4096x256) ![o, 0] S1024x256.size inb).toLoadRect) G := by
  intro r l
  refine Eq.trans ?_ (h r l)
  refine congrArg (v.read (Elt Ideal) (v.writes (Elt Ideal) v.junk L)) (funext fun a => Fin.ext ?_)
  fin_cases a
  · show o + 1 * r.val = o + r.val
    omega
  · show 0 + 1 * l.val = l.val
    omega

/-- The same of the whole array. -/
theorem cov_full (v : View sig .tc sp S4096x256 e) (inb : ∀ a : Fin 2, (![0, 0] : Fin 2 → ℕ) a + S4096x256.size a ≤ S4096x256.size a)
    (L : List (View.Piece (Elt Ideal) S4096x256 e)) (G : Fin 4096 → Fin 256 → Elt Ideal e)
    (h : ∀ k l, v.read (Elt Ideal) (v.writes (Elt Ideal) v.junk L) (ix2 k l) = G k l) :
    Reads (v.readCov L (Rect.unit (s := S4096x256) ![0, 0] S4096x256.size inb).toLoadRect) G := by
  intro k l
  refine Eq.trans ?_ (h k l)
  refine congrArg (v.read (Elt Ideal) (v.writes (Elt Ideal) v.junk L)) (funext fun a => Fin.ext ?_)
  fin_cases a
  · show 0 + 1 * k.val = k.val
    omega
  · show 0 + 1 * l.val = l.val
    omega

end Boxes

end Cert.KernelIdeal.Hand

end
-- ==== Proof.Exprs.lean ====
/-
  Every vector expression the last point stores or carries, read at an index: which entries of which matrices it is, given
  which matrices its arguments read. Also what the loads read.
-/
module

public import proofs.«01_k».proof.Proof.Tiles

@[expose] public section

set_option maxRecDepth 16384

noncomputable section

open Idealize.ShloMosaic Idealize.ShloMosaic.TcCoe Idealize.SL.Sem

namespace Cert.KernelIdeal.Hand

open Cert.KernelIdeal Cert.KernelIdeal.Gen

open VecWindow (put window)

/-! ## Matrices of the last point -/

/-- The numeral 1/4096 as the kernel spells it. -/
abbrev inv4096 : EReal := Ideal.ofBits .f32 0x39800000#32

/-- The numeral 1e-5, rounded to 32 bits. -/
abbrev eps : EReal := Ideal.ofBits .f32 0x3727C5AC#32

/-- The first layer after the rectifier, from its first two terms `A` and the first two powers `T0`, `T1`. -/
def hid {n : ℕ} (L : Fin n → Fin n → EReal) (T0 T1 A : Fin n → Fin 256 → EReal) (W : Fin 4 → Fin 256 → Fin 256 → EReal) (b : Fin 256 → EReal) : Fin n → Fin 256 → EReal :=
  fun k l => max (A k l + prod (cheb two L T1 T0) (W 2) k l + prod (cheb two L (cheb two L T1 T0) T1) (W 3) k l + b l) 0

/-- The second normalisation's mean. -/
def mean2 {n : ℕ} (H : Fin n → Fin 256 → EReal) : Fin 256 → EReal := fun l => (∑ k, H k l) * inv4096

/-- The second normalisation's scale: the variance is the mean of the squares less the square of the mean. -/
def scale2 {n : ℕ} (H : Fin n → Fin 256 → EReal) (g : Fin 256 → EReal) : Fin 256 → EReal :=
  fun l => Ideal.div (g l) (Ideal.sqrt ((∑ k, H k l * H k l) * inv4096 - mean2 H l * mean2 H l + eps))

/-- The second normalisation's offset. -/
def offs2 {n : ℕ} (H : Fin n → Fin 256 → EReal) (g be : Fin 256 → EReal) : Fin 256 → EReal := fun l => be l - mean2 H l * scale2 H g l

/-- Every column scaled and shifted. -/
def affine {n : ℕ} (H : Fin n → Fin 256 → EReal) (s o : Fin 256 → EReal) : Fin n → Fin 256 → EReal := fun k l => H k l * s l + o l

/-- The result: the normalised input `X s + o`, plus the second layer, plus its bias, through the rectifier. -/
def last {n : ℕ} (L : Fin n → Fin n → EReal) (N0 N1 X : Fin n → Fin 256 → EReal) (s o : Fin 256 → EReal) (W : Fin 4 → Fin 256 → Fin 256 → EReal) (b : Fin 256 → EReal) : Fin n → Fin 256 → EReal :=
  fun k l => max (affine X s o k l + (prod N0 (W 0) k l + prod N1 (W 1) k l + prod (cheb two L N1 N0) (W 2) k l
    + prod (cheb two L (cheb two L N1 N0) N1) (W 3) k l) + b l) 0

/-- An array of four weights reads four matrices. -/
def ReadsW (w : (⟨3, ![4, 256, 256]⟩ : Shape).Idx → EReal) (W : Fin 4 → Fin 256 → Fin 256 → EReal) : Prop := ∀ a k l, w (ix3 a k l) = W a k l

/-- An array of one weight reads a matrix. -/
def ReadsOne (w : (⟨3, ![1, 256, 256]⟩ : Shape).Idx → EReal) (W : Fin 256 → Fin 256 → EReal) : Prop := ∀ k l, w (ix3 0 k l) = W k l

/-! ## Loads -/

/-- A load of 1024 rows of a buffer. -/
theorem load_tile {m : ℕ} {e : EltTy} {sp : Space} {a : Memref sig .tc sp ⟨2, ![4096, m]⟩ e} (h : a.IsWhole) (x : Vec Ideal ⟨2, ![4096, m]⟩ e)
    (o : ℕ) (ho : o + 1024 ≤ 4096) (inb : ∀ b : Fin 2, (![o, 0] : Fin 2 → ℕ) b + (![1024, m] : Fin 2 → ℕ) b ≤ (![4096, m] : Fin 2 → ℕ) b) :
    Tile o ho (a.view.readAt (Elt Ideal) (Rect.unit (s := ⟨2, ![4096, m]⟩) ![o, 0] ![1024, m] inb).toLoadRect (h.unread x)) (mat x) := by
  intro r l
  rw [readAt_box h x inb]
  refine congrArg x (funext fun a => Fin.ext ?_)
  fin_cases a
  · show o + 1 * r.val = o + r.val
    omega
  · show 0 + 1 * l.val = l.val
    omega

/-- A load of one row of the two kept rows. -/
theorem load_row {sp : Space} {a : Memref sig .tc sp S2x256 .f32} (h : a.IsWhole) (x : Vec Ideal S2x256 .f32)
    (q : Fin 2) (inb : ∀ b : Fin 2, (![q.val, 0] : Fin 2 → ℕ) b + S1x256.size b ≤ S2x256.size b) :
    Row (a.view.readAt (Elt Ideal) (Rect.unit (s := S2x256) ![q.val, 0] S1x256.size inb).toLoadRect (h.unread x)) (fun l => x (ix2 q l)) := by
  intro l
  rw [readAt_box h x inb]
  refine congrArg x (funext fun a => Fin.ext ?_)
  fin_cases a
  · show q.val + 1 * 0 = q.val
    omega
  · show 0 + 1 * l.val = l.val
    omega

/-! ## The expressions -/

section Expressions

variable {o : ℕ} {ho : o + 1024 ≤ 4096}
  {L : Fin 4096 → Fin 4096 → EReal} {B Z U V A' X H N : Fin 4096 → Fin 256 → EReal} {W : Fin 4 → Fin 256 → Fin 256 → EReal} {W1 : Fin 256 → Fin 256 → EReal}
  {b s t p0 p1 p2 q0 q1 q2 : Fin 256 → EReal}
  {xl : Vec Ideal S1024x4096 .bf16} {xb : Vec Ideal S4096x256 .bf16} {xz xu xv : Vec Ideal S1024x256 .bf16}
  {xa xx xh : Vec Ideal S1024x256 .f32} {xw : Vec Ideal S4x256x256 .bf16} {x1 : FVec Ideal S1x256x256 .bf16} {xr xs xt y0 y1 y2 z0 z1 z2 : Vec Ideal S1x256 .f32}

theorem pay4_at (hl : Tile o ho xl L) (hb : Reads xb B) (hz : Tile o ho xz Z) : Tile o ho (k0_pay4 (F := Ideal) xl xb xz) (cheb two L B Z) := by
  intro r l
  pointwise [k0_pay4]
  simp only [hl _ _, hb _ _, hz _ _]
  rfl

theorem pay5_at (hl : Tile o ho xl L) (hb : Reads xb B) (hz : Tile o ho xz Z) : Tile o ho (k0_pay5 (F := Ideal) xl xb xz) (cheb two L B Z) := by
  intro r l
  pointwise [k0_pay5]
  simp only [hl _ _, hb _ _, hz _ _]
  rfl

theorem pay6_at (hl : Tile o ho xl L) (hb : Reads xb B) (hz : Tile o ho xz Z) : Tile o ho (k0_pay6 (F := Ideal) xl xb xz) (cheb two L B Z) := by
  intro r l
  pointwise [k0_pay6]
  simp only [hl _ _, hb _ _, hz _ _]
  rfl

theorem pay7_at (hl : Tile o ho xl L) (hb : Reads xb B) (hz : Tile o ho xz Z) : Tile o ho (k0_pay7 (F := Ideal) xl xb xz) (cheb two L B Z) := by
  intro r l
  pointwise [k0_pay7]
  simp only [hl _ _, hb _ _, hz _ _]
  rfl

theorem pay8_at (hl : Tile o ho xl L) (hb : Reads xb B) (hz : Tile o ho xz Z) : Tile o ho (k0_pay8 (F := Ideal) xl xb xz) (cheb two L B Z) := by
  intro r l
  pointwise [k0_pay8]
  simp only [hl _ _, hb _ _, hz _ _]
  rfl

theorem pay13_at (hl : Tile o ho xl L) (hb : Reads xb B) (hz : Tile o ho xz Z) : Tile o ho (k0_pay13 (F := Ideal) xl xb xz) (cheb two L B Z) := by
  intro r l
  pointwise [k0_pay13]
  simp only [hl _ _, hb _ _, hz _ _]
  rfl

theorem pay46_at (hl : Tile o ho xl L) (hb : Reads xb B) (hz : Tile o ho xz Z) : Tile o ho (k0_pay46 (F := Ideal) xl xb xz) (cheb two L B Z) := by
  intro r l
  pointwise [k0_pay46]
  simp only [hl _ _, hb _ _, hz _ _]
  rfl

theorem pay48_at (hl : Tile o ho xl L) (hb : Reads xb B) (hz : Tile o ho xz Z) : Tile o ho (k0_pay48 (F := Ideal) xl xb xz) (cheb two L B Z) := by
  intro r l
  pointwise [k0_pay48]
  simp only [hl _ _, hb _ _, hz _ _]
  rfl

theorem pay50_at (hl : Tile o ho xl L) (hb : Reads xb B) (hz : Tile o ho xz Z) : Tile o ho (k0_pay50 (F := Ideal) xl xb xz) (cheb two L B Z) := by
  intro r l
  pointwise [k0_pay50]
  simp only [hl _ _, hb _ _, hz _ _]
  rfl

theorem pay52_at (hl : Tile o ho xl L) (hb : Reads xb B) (hz : Tile o ho xz Z) : Tile o ho (k0_pay52 (F := Ideal) xl xb xz) (cheb two L B Z) := by
  intro r l
  pointwise [k0_pay52]
  simp only [hl _ _, hb _ _, hz _ _]
  rfl

theorem pay37_at (hl : Tile o ho xl L) (hb : Reads xb B) : Tile o ho (k0_pay37 (F := Ideal) xl xb) (prod L B) := by
  intro r l
  pointwise [k0_pay37]
  simp only [hl _ _, hb _ _]
  rfl

theorem pay39_at (hl : Tile o ho xl L) (hb : Reads xb B) : Tile o ho (k0_pay39 (F := Ideal) xl xb) (prod L B) := by
  intro r l
  pointwise [k0_pay39]
  simp only [hl _ _, hb _ _]
  rfl

theorem pay41_at (hl : Tile o ho xl L) (hb : Reads xb B) : Tile o ho (k0_pay41 (F := Ideal) xl xb) (prod L B) := by
  intro r l
  pointwise [k0_pay41]
  simp only [hl _ _, hb _ _]
  rfl

theorem pay44_at (hl : Tile o ho xl L) (hb : Reads xb B) : Tile o ho (k0_pay44 (F := Ideal) xl xb) (prod L B) := by
  intro r l
  pointwise [k0_pay44]
  simp only [hl _ _, hb _ _]
  rfl

theorem pay38_at (hw : ReadsW xw W) (hu : Tile o ho xu U) : Tile o ho (k0_pay38 (F := Ideal) xw xu) (prod U (W 0)) := by
  intro r l
  pointwise [k0_pay38]
  simp only [hw _ _ _, hu _ _]
  rfl

theorem pay40_at (hw : ReadsW xw W) (hu : Tile o ho xu U) : Tile o ho (k0_pay40 (F := Ideal) xw xu) (prod U (W 0)) := by
  intro r l
  pointwise [k0_pay40]
  simp only [hw _ _ _, hu _ _]
  rfl

theorem pay45_at (hw : ReadsW xw W) (hu : Tile o ho xu U) : Tile o ho (k0_pay45 (F := Ideal) xw xu) (prod U (W 0)) := by
  intro r l
  pointwise [k0_pay45]
  simp only [hw _ _ _, hu _ _]
  rfl

theorem pay43_at (hw : ReadsW xw W) (hu : Tile o ho xu U) : Tile o ho (k0_pay43 (F := Ideal) xu (k0_pay42 xw)) (prod U (W 0)) := by
  intro r l
  pointwise [k0_pay43, k0_pay42]
  simp only [hw _ _ _, hu _ _]
  rfl

theorem pay47_at (hw : ReadsW xw W) (ha : Tile o ho xa A') (hu : Tile o ho xu U) : Tile o ho (k0_pay47 (F := Ideal) xw xa xu) (fun k l => A' k l + prod U (W 1) k l) := by
  intro r l
  pointwise [k0_pay47]
  simp only [hw _ _ _, ha _ _, hu _ _]
  rfl

theorem pay49_at (hw : ReadsW xw W) (ha : Tile o ho xa A') (hu : Tile o ho xu U) : Tile o ho (k0_pay49 (F := Ideal) xw xa xu) (fun k l => A' k l + prod U (W 1) k l) := by
  intro r l
  pointwise [k0_pay49]
  simp only [hw _ _ _, ha _ _, hu _ _]
  rfl

theorem pay51_at (hw : ReadsW xw W) (ha : Tile o ho xa A') (hu : Tile o ho xu U) : Tile o ho (k0_pay51 (F := Ideal) xw xa xu) (fun k l => A' k l + prod U (W 1) k l) := by
  intro r l
  pointwise [k0_pay51]
  simp only [hw _ _ _, ha _ _, hu _ _]
  rfl

theorem pay53_at (hw : ReadsW xw W) (ha : Tile o ho xa A') (hu : Tile o ho xu U) : Tile o ho (k0_pay53 (F := Ideal) xw xa xu) (fun k l => A' k l + prod U (W 1) k l) := by
  intro r l
  pointwise [k0_pay53]
  simp only [hw _ _ _, ha _ _, hu _ _]
  rfl

theorem pay34_at (hs : Row xs s) (ht : Row xt t) (hh : Tile o ho xh H) : Tile o ho (k0_pay34 (F := Ideal) xs xt xh) (affine H s t) := by
  intro r l
  pointwise [k0_pay34]
  simp only [hs _, ht _, hh _ _]
  rfl

theorem pay35_at (hs : Row xs s) (ht : Row xt t) (hh : Tile o ho xh H) : Tile o ho (k0_pay35 (F := Ideal) xs xt xh) (affine H s t) := by
  intro r l
  pointwise [k0_pay35]
  simp only [hs _, ht _, hh _ _]
  rfl

theorem pay36_at (hs : Row xs s) (ht : Row xt t) (hh : Tile o ho xh H) : Tile o ho (k0_pay36 (F := Ideal) xs xt xh) (affine H s t) := by
  intro r l
  pointwise [k0_pay36]
  simp only [hs _, ht _, hh _ _]
  rfl

theorem hid0_at (hw : ReadsW xw W) (hu : Tile o ho xu U) (ha : Tile o ho xa A') (hv : Tile o ho xv V) (hr : Row xr b) : Tile o ho (k0_pay10 (F := Ideal) xw xu xa xv xr) (fun k l => max (A' k l + prod V (W 2) k l + prod U (W 3) k l + b l) 0) := by
  intro r l
  pointwise [k0_pay10, k0_pay9]
  simp only [hw _ _ _, hu _ _, ha _ _, hv _ _, hr _]
  rfl

theorem hid1_at (hw : ReadsW xw W) (hu : Tile o ho xu U) (ha : Tile o ho xa A') (hv : Tile o ho xv V) (hr : Row xr b) : Tile o ho (k0_pay17 (F := Ideal) xu (k0_pay14 xw xa xv) (k0_pay15 xw) xr) (fun k l => max (A' k l + prod V (W 2) k l + prod U (W 3) k l + b l) 0) := by
  intro r l
  pointwise [k0_pay17, k0_pay16, k0_pay14, k0_pay15]
  simp only [hw _ _ _, hu _ _, ha _ _, hv _ _, hr _]
  rfl

theorem hid2_at (hw : ReadsW xw W) (hl : Tile o ho xl L) (hb : Reads xb B) (hz : Tile o ho xz Z) (ha : Tile o ho xa A') (hv : Tile o ho xv V) (hr : Row xr b) : Tile o ho (k0_pay22 (F := Ideal) (k0_pay20 xw xl xb xz xa xv) xr) (fun k l => max (A' k l + prod V (W 2) k l + prod (cheb two L B Z) (W 3) k l + b l) 0) := by
  intro r l
  pointwise [k0_pay22, k0_pay21, k0_pay20]
  simp only [hw _ _ _, hl _ _, hb _ _, hz _ _, ha _ _, hv _ _, hr _]
  rfl

theorem hid3_at (hw : ReadsW xw W) (hl : Tile o ho xl L) (hb : Reads xb B) (hz : Tile o ho xz Z) (ha : Tile o ho xa A') (hv : Tile o ho xv V) (hr : Row xr b) : Tile o ho (k0_pay28 (F := Ideal) (k0_pay25 xw xl xb xz xa xv xr) k0_pay26) (fun k l => max (A' k l + prod V (W 2) k l + prod (cheb two L B Z) (W 3) k l + b l) 0) := by
  intro r l
  pointwise [k0_pay28, k0_pay27, k0_pay25, k0_pay26]
  simp only [hw _ _ _, hl _ _, hb _ _, hz _ _, ha _ _, hv _ _, hr _]
  rfl

theorem sum0_at {xw : FVec Ideal S4x256x256 .bf16} {a1 : FVec Ideal S1024x256 .bf16} {a2 : Vec Ideal S1024x256 .f32} {a3 : Vec Ideal S1024x256 .bf16} {a4 : Vec Ideal S1x256 .f32} (h : Tile o ho (k0_pay10 (F := Ideal) xw a1 a2 a3 a4) H) : Row (k0_pay11 (F := Ideal) xw a1 a2 a3 a4) (fun l => ∑ r, H (row o ho r) l) := by
  intro l
  refine Eq.trans ?_ (Finset.sum_congr rfl fun r _ => h r l)
  pointwise [k0_pay11, k0_pay10, k0_pay9]

theorem sq0_at {xw : FVec Ideal S4x256x256 .bf16} {a1 : FVec Ideal S1024x256 .bf16} {a2 : Vec Ideal S1024x256 .f32} {a3 : Vec Ideal S1024x256 .bf16} {a4 : Vec Ideal S1x256 .f32} (h : Tile o ho (k0_pay10 (F := Ideal) xw a1 a2 a3 a4) H) : Row (k0_pay12 (F := Ideal) xw a1 a2 a3 a4) (fun l => ∑ r, H (row o ho r) l * H (row o ho r) l) := by
  intro l
  refine Eq.trans ?_ (Finset.sum_congr rfl fun r _ => congrArg₂ (· * ·) (h r l) (h r l))
  pointwise [k0_pay12, k0_pay10, k0_pay9]

theorem sum1_at {a1 : FVec Ideal S1024x256 .bf16} {a2 : FVec Ideal S1024x256 .f32} {a3 : FVec Ideal S1x256x256 .bf16} {a4 : Vec Ideal S1x256 .f32} (h : Tile o ho (k0_pay17 (F := Ideal) a1 a2 a3 a4) H) : Row (k0_pay18 (F := Ideal) a1 a2 a3 a4) (fun l => ∑ r, H (row o ho r) l) := by
  intro l
  refine Eq.trans ?_ (Finset.sum_congr rfl fun r _ => h r l)
  pointwise [k0_pay18, k0_pay17, k0_pay16]

theorem sq1_at {a1 : FVec Ideal S1024x256 .bf16} {a2 : FVec Ideal S1024x256 .f32} {a3 : FVec Ideal S1x256x256 .bf16} {a4 : Vec Ideal S1x256 .f32} (h : Tile o ho (k0_pay17 (F := Ideal) a1 a2 a3 a4) H) : Row (k0_pay19 (F := Ideal) a1 a2 a3 a4) (fun l => ∑ r, H (row o ho r) l * H (row o ho r) l) := by
  intro l
  refine Eq.trans ?_ (Finset.sum_congr rfl fun r _ => congrArg₂ (· * ·) (h r l) (h r l))
  pointwise [k0_pay19, k0_pay17, k0_pay16]

theorem sum2_at {a1 : FVec Ideal S1024x256 .f32} {a4 : Vec Ideal S1x256 .f32} (h : Tile o ho (k0_pay22 (F := Ideal) a1 a4) H) : Row (k0_pay23 (F := Ideal) a1 a4) (fun l => ∑ r, H (row o ho r) l) := by
  intro l
  refine Eq.trans ?_ (Finset.sum_congr rfl fun r _ => h r l)
  pointwise [k0_pay23, k0_pay22, k0_pay21]

theorem sq2_at {a1 : FVec Ideal S1024x256 .f32} {a4 : Vec Ideal S1x256 .f32} (h : Tile o ho (k0_pay22 (F := Ideal) a1 a4) H) : Row (k0_pay24 (F := Ideal) a1 a4) (fun l => ∑ r, H (row o ho r) l * H (row o ho r) l) := by
  intro l
  refine Eq.trans ?_ (Finset.sum_congr rfl fun r _ => congrArg₂ (· * ·) (h r l) (h r l))
  pointwise [k0_pay24, k0_pay22, k0_pay21]

theorem tile3_eq (h3 : Tile 3072 le3 (k0_pay28 (F := Ideal) xa k0_pay26) H) (r : Fin 1024) (l : Fin 256) : max (xa (ix2 r l)) 0 = H (row 3072 le3 r) l := by
  refine Eq.trans ?_ (h3 r l)
  pointwise [k0_pay28, k0_pay27, k0_pay26]

/-- The second normalisation's scale, from the four tiles' sums. -/
theorem pay30_at (h0 : Row y0 fun l => ∑ r, H (row 0 le0 r) l) (k0 : Row z0 fun l => ∑ r, H (row 0 le0 r) l * H (row 0 le0 r) l)
    (h1 : Row y1 fun l => ∑ r, H (row 1024 le1 r) l) (k1 : Row z1 fun l => ∑ r, H (row 1024 le1 r) l * H (row 1024 le1 r) l)
    (h2 : Row y2 fun l => ∑ r, H (row 2048 le2 r) l) (k2 : Row z2 fun l => ∑ r, H (row 2048 le2 r) l * H (row 2048 le2 r) l)
    (h3 : Tile 3072 le3 (k0_pay28 (F := Ideal) xa k0_pay26) H) (hs : Row xs s) :
    Row (k0_pay30 (F := Ideal) y0 z0 y1 z1 y2 z2 xa k0_pay26 xs) (scale2 H s) := by
  intro l
  pointwise [k0_pay30, k0_pay29, k0_pay27, k0_pay26]
  simp only [tile3_eq h3, h0 _, h1 _, h2 _, k0 _, k1 _, k2 _, hs _]
  unfold scale2 mean2
  rw [sum_rows (fun k => H k l), sum_rows (fun k => H k l * H k l)]

/-- The second normalisation's offset, from the four tiles' sums. -/
theorem pay31_at (h0 : Row y0 fun l => ∑ r, H (row 0 le0 r) l) (k0 : Row z0 fun l => ∑ r, H (row 0 le0 r) l * H (row 0 le0 r) l)
    (h1 : Row y1 fun l => ∑ r, H (row 1024 le1 r) l) (k1 : Row z1 fun l => ∑ r, H (row 1024 le1 r) l * H (row 1024 le1 r) l)
    (h2 : Row y2 fun l => ∑ r, H (row 2048 le2 r) l) (k2 : Row z2 fun l => ∑ r, H (row 2048 le2 r) l * H (row 2048 le2 r) l)
    (h3 : Tile 3072 le3 (k0_pay28 (F := Ideal) xa k0_pay26) H) (hs : Row xs s) (ht : Row xt t) :
    Row (k0_pay31 (F := Ideal) y0 z0 y1 z1 y2 z2 xa k0_pay26 xs xt) (offs2 H s t) := by
  intro l
  pointwise [k0_pay31, k0_pay30, k0_pay29, k0_pay27, k0_pay26]
  simp only [tile3_eq h3, h0 _, h1 _, h2 _, k0 _, k1 _, k2 _, hs _, ht _]
  unfold offs2 scale2 mean2
  rw [sum_rows (fun k => H k l), sum_rows (fun k => H k l * H k l)]

/-- The first tile scaled and shifted. -/
theorem pay33_at (h0 : Row y0 fun l => ∑ r, H (row 0 le0 r) l) (k0 : Row z0 fun l => ∑ r, H (row 0 le0 r) l * H (row 0 le0 r) l)
    (h1 : Row y1 fun l => ∑ r, H (row 1024 le1 r) l) (k1 : Row z1 fun l => ∑ r, H (row 1024 le1 r) l * H (row 1024 le1 r) l)
    (h2 : Row y2 fun l => ∑ r, H (row 2048 le2 r) l) (k2 : Row z2 fun l => ∑ r, H (row 2048 le2 r) l * H (row 2048 le2 r) l)
    (h3 : Tile 3072 le3 (k0_pay28 (F := Ideal) xa k0_pay26) H) (hs : Row xs s) (ht : Row xt t) (hh : Tile o ho xh H) :
    Tile o ho (k0_pay33 (k0_pay32 (F := Ideal) y0 z0 y1 z1 y2 z2 xa k0_pay26 xs xt xh)) (affine H (scale2 H s) (offs2 H s t)) := by
  intro r l
  refine Eq.trans ?_ (congrArg₂ (· + ·) (congrArg₂ (· * ·) (hh r l) (pay30_at h0 k0 h1 k1 h2 k2 h3 hs l)) (pay31_at h0 k0 h1 k1 h2 k2 h3 hs ht l))
  pointwise [k0_pay33, k0_pay32, k0_pay31, k0_pay30, k0_pay29, k0_pay27, k0_pay26]

theorem out0_at (hw : ReadsW xw W) (hs : Row xs s) (ht : Row xt t) (hl : Tile o ho xl L) (hb : Reads xb B) (hz : Tile o ho xz Z) (ha : Tile o ho xa A') (hv : Tile o ho xv V) (hx : Tile o ho xx X) (hr : Row xr b) : Tile o ho (k0_pay55 (F := Ideal) (k0_pay54 xw xs xt xl xb xz xa xv xx) xr) (fun k l => max (affine X s t k l + (A' k l + prod V (W 2) k l + prod (cheb two L B Z) (W 3) k l) + b l) 0) := by
  intro r l
  pointwise [k0_pay55, k0_pay54]
  simp only [hw _ _ _, hs _, ht _, hl _ _, hb _ _, hz _ _, ha _ _, hv _ _, hx _ _, hr _]
  rfl

theorem out1_at (hw : ReadsW xw W) (hs : Row xs s) (ht : Row xt t) (hl : Tile o ho xl L) (hb : Reads xb B) (hz : Tile o ho xz Z) (ha : Tile o ho xa A') (hv : Tile o ho xv V) (hx : Tile o ho xx X) (hr : Row xr b) : Tile o ho (k0_pay58 (F := Ideal) (k0_pay56 xw xs xt xl xb xz xa xv xx xr) k0_pay57) (fun k l => max (affine X s t k l + (A' k l + prod V (W 2) k l + prod (cheb two L B Z) (W 3) k l) + b l) 0) := by
  intro r l
  pointwise [k0_pay58, k0_pay56, k0_pay57]
  simp only [hw _ _ _, hs _, ht _, hl _ _, hb _ _, hz _ _, ha _ _, hv _ _, hx _ _, hr _]
  rfl

theorem out2_at (hw : ReadsW xw W) (hs : Row xs s) (ht : Row xt t) (hl : Tile o ho xl L) (hb : Reads xb B) (hz : Tile o ho xz Z) (ha : Tile o ho xa A') (hv : Tile o ho xv V) (hx : Tile o ho xx X) (hr : Row xr b) : Tile o ho (k0_pay59 (F := Ideal) xw xs xt xl xb xz xa xv xx xr) (fun k l => max (affine X s t k l + (A' k l + prod V (W 2) k l + prod (cheb two L B Z) (W 3) k l) + b l) 0) := by
  intro r l
  pointwise [k0_pay59]
  simp only [hw _ _ _, hs _, ht _, hl _ _, hb _ _, hz _ _, ha _ _, hv _ _, hx _ _, hr _]
  rfl

theorem out3_at (hw : ReadsW xw W) (hs : Row xs s) (ht : Row xt t) (hl : Tile o ho xl L) (hb : Reads xb B) (hz : Tile o ho xz Z) (ha : Tile o ho xa A') (hv : Tile o ho xv V) (hx : Tile o ho xx X) (hr : Row xr b) : Tile o ho (k0_pay1 (F := Ideal) (k0_pay60 xw xs xt xl xb xz xa xv xx xr) k0_pay61) (fun k l => max (affine X s t k l + (A' k l + prod V (W 2) k l + prod (cheb two L B Z) (W 3) k l) + b l) 0) := by
  intro r l
  pointwise [k0_pay1, k0_pay60, k0_pay61]
  simp only [hw _ _ _, hs _, ht _, hl _ _, hb _ _, hz _ _, ha _ _, hv _ _, hx _ _, hr _]
  rfl

end Expressions

end Cert.KernelIdeal.Hand

end
-- ==== Proof.LastValues.lean ====
/-
  The last point, value by value: every array it loads, computes or stores, as entries of the matrices that the exact
  arithmetic makes of the inputs' blocks and of the scratch buffers' contents.
-/
module

public import proofs.«01_k».proof.Proof.Exprs
public import proofs.«01_k».proof.Proof.LastI

@[expose] public section

set_option maxRecDepth 16384

noncomputable section

open Idealize.ShloMosaic Idealize.ShloMosaic.TcCoe Idealize.SL.Sem

namespace Cert.KernelIdeal.Hand

open Cert.KernelIdeal Cert.KernelIdeal.Gen

open VecWindow (put window)

/-! ## Loads of whole buffers -/

/-- The row of an array of one row. -/
def rowv {α : Type} {m : ℕ} (w : (⟨2, ![1, m]⟩ : Shape).Idx → α) : Fin m → α := fun l => w (ix2 0 l)

/-- A load of a whole buffer reads its matrix. -/
theorem load_whole {n m : ℕ} {e : EltTy} {sp : Space} {a : Memref sig .tc sp ⟨2, ![n, m]⟩ e} (h : a.IsWhole) (x : Vec Ideal ⟨2, ![n, m]⟩ e)
    (inb : ∀ b : Fin 2, (![0, 0] : Fin 2 → ℕ) b + (![n, m] : Fin 2 → ℕ) b ≤ (![n, m] : Fin 2 → ℕ) b) :
    Reads (a.view.readAt (Elt Ideal) (Rect.unit (s := ⟨2, ![n, m]⟩) ![0, 0] ![n, m] inb).toLoadRect (h.unread x)) (mat x) := by
  intro k l
  rw [readAt_box h x inb]
  refine congrArg x (funext fun a => Fin.ext ?_)
  fin_cases a
  · show 0 + 1 * k.val = k.val
    omega
  · show 0 + 1 * l.val = l.val
    omega

/-- A load of a buffer of one row reads the row. -/
theorem load_one {m : ℕ} {e : EltTy} {sp : Space} {a : Memref sig .tc sp ⟨2, ![1, m]⟩ e} (h : a.IsWhole) (x : Vec Ideal ⟨2, ![1, m]⟩ e)
    (inb : ∀ b : Fin 2, (![0, 0] : Fin 2 → ℕ) b + (![1, m] : Fin 2 → ℕ) b ≤ (![1, m] : Fin 2 → ℕ) b) :
    Row (a.view.readAt (Elt Ideal) (Rect.unit (s := ⟨2, ![1, m]⟩) ![0, 0] ![1, m] inb).toLoadRect (h.unread x)) (rowv x) :=
  fun l => load_whole h x inb 0 l

/-- The same of the four weights. -/
theorem load_wts {a : Memref sig .tc .vmem S4x256x256 .bf16} (h : a.IsWhole) (x : Vec Ideal S4x256x256 .bf16)
    (inb : ∀ b : Fin 3, (![0, 0, 0] : Fin 3 → ℕ) b + S4x256x256.size b ≤ S4x256x256.size b) (q : Fin 4) (k l : Fin 256) :
    a.view.readAt (Elt Ideal) (Rect.unit (s := S4x256x256) ![0, 0, 0] S4x256x256.size inb).toLoadRect (h.unread x) (ix3 q k l) = x (ix3 q k l) := by
  rw [readAt_box h x inb]
  refine congrArg x (funext fun a => Fin.ext ?_)
  fin_cases a
  · show 0 + 1 * q.val = q.val
    omega
  · show 0 + 1 * k.val = k.val
    omega
  · show 0 + 1 * l.val = l.val
    omega

/-! ## The matrices -/

section Values

variable {c : Dev nD}
  {arg2 : Memref sig .tc .vmem S4096x256 .f32} {harg2 : arg2.IsWhole}
  {arg3 : Memref sig .tc .vmem S4x256x256 .bf16} {harg3 : arg3.IsWhole}
  {arg4 : Memref sig .tc .vmem S1x256 .f32} {harg4 : arg4.IsWhole}
  {arg7 : Memref sig .tc .vmem S4x256x256 .bf16} {harg7 : arg7.IsWhole}
  {arg8 : Memref sig .tc .vmem S1x256 .f32} {harg8 : arg8.IsWhole}
  {arg9 : Memref sig .tc .vmem S1x256 .f32} {harg9 : arg9.IsWhole}
  {arg10 : Memref sig .tc .vmem S1x256 .f32} {harg10 : arg10.IsWhole}
  {arg11 : Memref sig .tc .vmem S4096x256 .f32} {harg11 : arg11.IsWhole}
  {arg12 : Memref sig .tc .vmem S4096x4096 .bf16} {harg12 : arg12.IsWhole}
  {arg13 : Memref sig .tc .vmem S4096x256 .bf16} {harg13 : arg13.IsWhole}
  {arg14 : Memref sig .tc .vmem S4096x256 .bf16} {harg14 : arg14.IsWhole}
  {arg15 : Memref sig .tc .vmem S4096x256 .bf16} {harg15 : arg15.IsWhole}
  {arg16 : Memref sig .tc .vmem S4096x256 .f32} {harg16 : arg16.IsWhole}
  {arg17 : Memref sig .tc .vmem S2x256 .f32} {harg17 : arg17.IsWhole}
  {x1 : Vec Ideal S4096x256 .f32} {x2 x6 : Vec Ideal S4x256x256 .bf16} {x3 x4 x5 x7 x8 x9 : Vec Ideal S1x256 .f32}
  {s12 : Vec Ideal S4096x4096 .bf16} {s13 s14 : Vec Ideal S4096x256 .bf16} {s16 : Vec Ideal S4096x256 .f32} {s17 : Vec Ideal S2x256 .f32}

/-- The third term of the first layer's recursion. -/
def Vm (s12 : Vec Ideal S4096x4096 .bf16) (s13 s14 : Vec Ideal S4096x256 .bf16) : Fin 4096 → Fin 256 → EReal := cheb two (mat s12) (mat s14) (mat s13)

/-- The first layer after the rectifier. -/
def Hm (x2 : Vec Ideal S4x256x256 .bf16) (x3 : Vec Ideal S1x256 .f32) (s12 : Vec Ideal S4096x4096 .bf16) (s13 s14 : Vec Ideal S4096x256 .bf16) (s16 : Vec Ideal S4096x256 .f32) : Fin 4096 → Fin 256 → EReal := hid (mat s12) (mat s13) (mat s14) (mat s16) (wts x2) (rowv x3)

/-- The second normalisation's scale. -/
def Sm (x2 : Vec Ideal S4x256x256 .bf16) (x3 x8 : Vec Ideal S1x256 .f32) (s12 : Vec Ideal S4096x4096 .bf16) (s13 s14 : Vec Ideal S4096x256 .bf16) (s16 : Vec Ideal S4096x256 .f32) : Fin 256 → EReal := scale2 (Hm x2 x3 s12 s13 s14 s16) (rowv x8)

/-- The second normalisation's offset. -/
def Om (x2 : Vec Ideal S4x256x256 .bf16) (x3 x8 x9 : Vec Ideal S1x256 .f32) (s12 : Vec Ideal S4096x4096 .bf16) (s13 s14 : Vec Ideal S4096x256 .bf16) (s16 : Vec Ideal S4096x256 .f32) : Fin 256 → EReal := offs2 (Hm x2 x3 s12 s13 s14 s16) (rowv x8) (rowv x9)

/-- The second layer's input and the next two terms of its recursion. -/
def N0m (x2 : Vec Ideal S4x256x256 .bf16) (x3 x8 x9 : Vec Ideal S1x256 .f32) (s12 : Vec Ideal S4096x4096 .bf16) (s13 s14 : Vec Ideal S4096x256 .bf16) (s16 : Vec Ideal S4096x256 .f32) : Fin 4096 → Fin 256 → EReal := affine (Hm x2 x3 s12 s13 s14 s16) (Sm x2 x3 x8 s12 s13 s14 s16) (Om x2 x3 x8 x9 s12 s13 s14 s16)
@[inherit_doc N0m] def N1m (x2 : Vec Ideal S4x256x256 .bf16) (x3 x8 x9 : Vec Ideal S1x256 .f32) (s12 : Vec Ideal S4096x4096 .bf16) (s13 s14 : Vec Ideal S4096x256 .bf16) (s16 : Vec Ideal S4096x256 .f32) : Fin 4096 → Fin 256 → EReal := prod (mat s12) (N0m x2 x3 x8 x9 s12 s13 s14 s16)
@[inherit_doc N0m] def N2m (x2 : Vec Ideal S4x256x256 .bf16) (x3 x8 x9 : Vec Ideal S1x256 .f32) (s12 : Vec Ideal S4096x4096 .bf16) (s13 s14 : Vec Ideal S4096x256 .bf16) (s16 : Vec Ideal S4096x256 .f32) : Fin 4096 → Fin 256 → EReal := cheb two (mat s12) (N1m x2 x3 x8 x9 s12 s13 s14 s16) (N0m x2 x3 x8 x9 s12 s13 s14 s16)

/-- The second layer's first term, and its first two. -/
def P0m (x6 : Vec Ideal S4x256x256 .bf16) (x2 : Vec Ideal S4x256x256 .bf16) (x3 x8 x9 : Vec Ideal S1x256 .f32) (s12 : Vec Ideal S4096x4096 .bf16) (s13 s14 : Vec Ideal S4096x256 .bf16) (s16 : Vec Ideal S4096x256 .f32) : Fin 4096 → Fin 256 → EReal := prod (N0m x2 x3 x8 x9 s12 s13 s14 s16) (wts x6 0)
@[inherit_doc P0m] def P1m (x6 : Vec Ideal S4x256x256 .bf16) (x2 : Vec Ideal S4x256x256 .bf16) (x3 x8 x9 : Vec Ideal S1x256 .f32) (s12 : Vec Ideal S4096x4096 .bf16) (s13 s14 : Vec Ideal S4096x256 .bf16) (s16 : Vec Ideal S4096x256 .f32) : Fin 4096 → Fin 256 → EReal := fun k l => P0m x6 x2 x3 x8 x9 s12 s13 s14 s16 k l + prod (N1m x2 x3 x8 x9 s12 s13 s14 s16) (wts x6 1) k l

theorem r_at : ReadsW (lastRun.sl.r (F := Ideal) c arg3 harg3 x2) (wts x2) := by
  intro a k l
  unfold lastRun.sl.r
  pointwise [k0_pay2]
  exact load_wts _ _ _ a k l

theorem r_1_at : ReadsW (lastRun.sl.r_1 (F := Ideal) c arg7 harg7 x6) (wts x6) := by
  intro a k l
  unfold lastRun.sl.r_1
  pointwise [k0_pay3]
  exact load_wts _ _ _ a k l

theorem r_2_at : Tile 2048 le2 (lastRun.sl.r_2 (F := Ideal) c arg12 harg12 s12) (mat s12) := by
  unfold lastRun.sl.r_2
  exact load_tile harg12 _ 2048 le2 _

theorem r_3_at : Reads (lastRun.sl.r_3 (F := Ideal) c arg14 harg14 s14) (mat s14) := by
  unfold lastRun.sl.r_3
  exact load_whole harg14 _ _

theorem r_5_at : Tile 0 le0 (lastRun.sl.r_5 (F := Ideal) c arg16 harg16 s16) (mat s16) := by
  unfold lastRun.sl.r_5
  exact load_tile harg16 _ 0 le0 _

theorem v124_at : Tile 1024 le1 (lastRun.sl.v124 (F := Ideal) c arg16 harg16 s16) (mat s16) := by
  unfold lastRun.sl.v124
  exact load_tile harg16 _ 1024 le1 _

theorem v156_at : Tile 2048 le2 (lastRun.sl.v156 (F := Ideal) c arg16 harg16 s16) (mat s16) := by
  unfold lastRun.sl.v156
  exact load_tile harg16 _ 2048 le2 _

theorem v188_at : Tile 3072 le3 (lastRun.sl.v188 (F := Ideal) c arg16 harg16 s16) (mat s16) := by
  unfold lastRun.sl.v188
  exact load_tile harg16 _ 3072 le3 _

theorem r_22_at : Row (lastRun.sl.r_22 (F := Ideal) c arg17 harg17 s17) (fun l => s17 (ix2 0 l)) := by
  unfold lastRun.sl.r_22
  exact load_row harg17 _ 0 _

theorem r_23_at : Row (lastRun.sl.r_23 (F := Ideal) c arg17 harg17 s17) (fun l => s17 (ix2 1 l)) := by
  unfold lastRun.sl.r_23
  exact load_row harg17 _ 1 _

theorem H15_4_at (f : arg15.view.ty.Contents (Elt Ideal)) (k : Fin 4096) (l : Fin 256) :
    arg15.view.read (Elt Ideal) (arg15.view.writes (Elt Ideal) f (lastRun.sl.H15_4 (F := Ideal) c arg12 harg12 arg13 harg13 arg14 harg14 s12 s13 s14)) (ix2 k l) = (Vm s12 s13 s14) k l := by
  unfold lastRun.sl.H15_4
  exact tiles4 _ _ _ _ _ _ _ _ _ _ [] _
    (pay4_at (load_tile harg12 _ 0 le0 _) (load_whole harg14 _ _) (load_tile harg13 _ 0 le0 _))
    (pay5_at (load_tile harg12 _ 1024 le1 _) (load_whole harg14 _ _) (load_tile harg13 _ 1024 le1 _))
    (pay6_at r_2_at r_3_at (load_tile harg13 _ 2048 le2 _))
    (pay7_at (load_tile harg12 _ 3072 le3 _) (load_whole harg14 _ _) (load_tile harg13 _ 3072 le3 _)) k l

theorem v85_at : Reads (lastRun.sl.v85 (F := Ideal) c arg12 harg12 arg13 harg13 arg14 harg14 arg15 s12 s13 s14) (Vm s12 s13 s14) := by
  unfold lastRun.sl.v85
  exact cov_full _ _ _ _ (fun k l => H15_4_at _ k l)

theorem v93_at : Tile 0 le0 (lastRun.sl.v93 (F := Ideal) c arg12 harg12 arg13 harg13 arg14 harg14 arg15 s12 s13 s14) (Vm s12 s13 s14) := by
  unfold lastRun.sl.v93
  exact cov_tile _ 0 le0 _ _ _ (fun r l => H15_4_at _ _ l)

theorem v125_at : Tile 1024 le1 (lastRun.sl.v125 (F := Ideal) c arg12 harg12 arg13 harg13 arg14 harg14 arg15 s12 s13 s14) (Vm s12 s13 s14) := by
  unfold lastRun.sl.v125
  exact cov_tile _ 1024 le1 _ _ _ (fun r l => H15_4_at _ _ l)

theorem v157_at : Tile 2048 le2 (lastRun.sl.v157 (F := Ideal) c arg12 harg12 arg13 harg13 arg14 harg14 arg15 s12 s13 s14) (Vm s12 s13 s14) := by
  unfold lastRun.sl.v157
  exact cov_tile _ 2048 le2 _ _ _ (fun r l => H15_4_at _ _ l)

theorem v189_at : Tile 3072 le3 (lastRun.sl.v189 (F := Ideal) c arg12 harg12 arg13 harg13 arg14 harg14 arg15 s12 s13 s14) (Vm s12 s13 s14) := by
  unfold lastRun.sl.v189
  exact cov_tile _ 3072 le3 _ _ _ (fun r l => H15_4_at _ _ l)

theorem r_4_at : Tile 0 le0 (lastRun.sl.r_4 (F := Ideal) c arg12 harg12 arg13 harg13 arg14 harg14 arg15 s12 s13 s14) (cheb two (mat s12) (Vm s12 s13 s14) (mat s14)) := by
  unfold lastRun.sl.r_4
  exact pay8_at (load_tile harg12 _ 0 le0 _) v85_at (load_tile harg14 _ 0 le0 _)

theorem r_8_at : Tile 1024 le1 (lastRun.sl.r_8 (F := Ideal) c arg12 harg12 arg13 harg13 arg14 harg14 arg15 s12 s13 s14) (cheb two (mat s12) (Vm s12 s13 s14) (mat s14)) := by
  unfold lastRun.sl.r_8
  exact pay13_at (load_tile harg12 _ 1024 le1 _) v85_at (load_tile harg14 _ 1024 le1 _)

theorem h0_at : Tile 0 le0 (k0_pay10 (lastRun.sl.r (F := Ideal) c arg3 harg3 x2) (lastRun.sl.r_4 (F := Ideal) c arg12 harg12 arg13 harg13 arg14 harg14 arg15 s12 s13 s14) (lastRun.sl.r_5 (F := Ideal) c arg16 harg16 s16) (lastRun.sl.v93 (F := Ideal) c arg12 harg12 arg13 harg13 arg14 harg14 arg15 s12 s13 s14) (View.readAt (Elt Ideal) arg4.view (Rect.unit (s := S1x256) ![0, 0] S1x256.size inb_S1x256_S1x256_0_0).toLoadRect (harg4.unread x3))) (Hm x2 x3 s12 s13 s14 s16) := by
  exact hid0_at r_at r_4_at r_5_at v93_at (load_one harg4 _ _)

theorem h1_at : Tile 1024 le1 (k0_pay17 (lastRun.sl.r_8 (F := Ideal) c arg12 harg12 arg13 harg13 arg14 harg14 arg15 s12 s13 s14) (lastRun.sl.r_9 (F := Ideal) c arg3 harg3 arg12 harg12 arg13 harg13 arg14 harg14 arg15 arg16 harg16 x2 s12 s13 s14 s16) (lastRun.sl.r_10 (F := Ideal) c arg3 harg3 x2) (View.readAt (Elt Ideal) arg4.view (Rect.unit (s := S1x256) ![0, 0] S1x256.size inb_S1x256_S1x256_0_0).toLoadRect (harg4.unread x3))) (Hm x2 x3 s12 s13 s14 s16) := by
  unfold lastRun.sl.r_9 lastRun.sl.r_10
  exact hid1_at r_at r_8_at v124_at v125_at (load_one harg4 _ _)

theorem h2_at : Tile 2048 le2 (k0_pay22 (lastRun.sl.r_13 (F := Ideal) c arg3 harg3 arg12 harg12 arg13 harg13 arg14 harg14 arg15 arg16 harg16 x2 s12 s13 s14 s16) (View.readAt (Elt Ideal) arg4.view (Rect.unit (s := S1x256) ![0, 0] S1x256.size inb_S1x256_S1x256_0_0).toLoadRect (harg4.unread x3))) (Hm x2 x3 s12 s13 s14 s16) := by
  unfold lastRun.sl.r_13
  exact hid2_at r_at (load_tile harg12 _ 2048 le2 _) v85_at (load_tile harg14 _ 2048 le2 _) v156_at v157_at (load_one harg4 _ _)

theorem h3_at : Tile 3072 le3 (k0_pay28 (lastRun.sl.r_16 (F := Ideal) c arg3 harg3 arg4 harg4 arg12 harg12 arg13 harg13 arg14 harg14 arg15 arg16 harg16 x2 x3 s12 s13 s14 s16) k0_pay26) (Hm x2 x3 s12 s13 s14 s16) := by
  unfold lastRun.sl.r_16
  exact hid3_at r_at (load_tile harg12 _ 3072 le3 _) v85_at (load_tile harg14 _ 3072 le3 _) v188_at v189_at (load_one harg4 _ _)

theorem H16_4_at (f : arg16.view.ty.Contents (Elt Ideal)) (k : Fin 4096) (l : Fin 256) :
    arg16.view.read (Elt Ideal) (arg16.view.writes (Elt Ideal) f (lastRun.sl.H16_4 (F := Ideal) c arg3 harg3 arg4 harg4 arg12 harg12 arg13 harg13 arg14 harg14 arg15 arg16 harg16 x2 x3 s12 s13 s14 s16)) (ix2 k l) = (Hm x2 x3 s12 s13 s14 s16) k l := by
  unfold lastRun.sl.H16_4
  exact tiles4 _ _ _ _ _ _ _ _ _ _ [] _
    h0_at
    h1_at
    h2_at
    h3_at k l

theorem r_6_at : Row (lastRun.sl.r_6 (F := Ideal) c arg3 harg3 arg4 harg4 arg12 harg12 arg13 harg13 arg14 harg14 arg15 arg16 harg16 x2 x3 s12 s13 s14 s16) (fun l => ∑ r, (Hm x2 x3 s12 s13 s14 s16) (row 0 le0 r) l) := by
  unfold lastRun.sl.r_6
  exact sum0_at h0_at

theorem r_7_at : Row (lastRun.sl.r_7 (F := Ideal) c arg3 harg3 arg4 harg4 arg12 harg12 arg13 harg13 arg14 harg14 arg15 arg16 harg16 x2 x3 s12 s13 s14 s16) (fun l => ∑ r, (Hm x2 x3 s12 s13 s14 s16) (row 0 le0 r) l * (Hm x2 x3 s12 s13 s14 s16) (row 0 le0 r) l) := by
  unfold lastRun.sl.r_7
  exact sq0_at h0_at

theorem r_11_at : Row (lastRun.sl.r_11 (F := Ideal) c arg3 harg3 arg4 harg4 arg12 harg12 arg13 harg13 arg14 harg14 arg15 arg16 harg16 x2 x3 s12 s13 s14 s16) (fun l => ∑ r, (Hm x2 x3 s12 s13 s14 s16) (row 1024 le1 r) l) := by
  unfold lastRun.sl.r_11
  exact sum1_at h1_at

theorem r_12_at : Row (lastRun.sl.r_12 (F := Ideal) c arg3 harg3 arg4 harg4 arg12 harg12 arg13 harg13 arg14 harg14 arg15 arg16 harg16 x2 x3 s12 s13 s14 s16) (fun l => ∑ r, (Hm x2 x3 s12 s13 s14 s16) (row 1024 le1 r) l * (Hm x2 x3 s12 s13 s14 s16) (row 1024 le1 r) l) := by
  unfold lastRun.sl.r_12
  exact sq1_at h1_at

theorem r_14_at : Row (lastRun.sl.r_14 (F := Ideal) c arg3 harg3 arg4 harg4 arg12 harg12 arg13 harg13 arg14 harg14 arg15 arg16 harg16 x2 x3 s12 s13 s14 s16) (fun l => ∑ r, (Hm x2 x3 s12 s13 s14 s16) (row 2048 le2 r) l) := by
  unfold lastRun.sl.r_14
  exact sum2_at h2_at

theorem r_15_at : Row (lastRun.sl.r_15 (F := Ideal) c arg3 harg3 arg4 harg4 arg12 harg12 arg13 harg13 arg14 harg14 arg15 arg16 harg16 x2 x3 s12 s13 s14 s16) (fun l => ∑ r, (Hm x2 x3 s12 s13 s14 s16) (row 2048 le2 r) l * (Hm x2 x3 s12 s13 s14 s16) (row 2048 le2 r) l) := by
  unfold lastRun.sl.r_15
  exact sq2_at h2_at

theorem r_17_at : Row (lastRun.sl.r_17 (F := Ideal) c arg3 harg3 arg4 harg4 arg9 harg9 arg12 harg12 arg13 harg13 arg14 harg14 arg15 arg16 harg16 x2 x3 x8 s12 s13 s14 s16) (Sm x2 x3 x8 s12 s13 s14 s16) := by
  unfold lastRun.sl.r_17
  exact pay30_at r_6_at r_7_at r_11_at r_12_at r_14_at r_15_at h3_at (load_one harg9 _ _)

theorem r_18_at : Row (lastRun.sl.r_18 (F := Ideal) c arg3 harg3 arg4 harg4 arg9 harg9 arg10 harg10 arg12 harg12 arg13 harg13 arg14 harg14 arg15 arg16 harg16 x2 x3 x8 x9 s12 s13 s14 s16) (Om x2 x3 x8 x9 s12 s13 s14 s16) := by
  unfold lastRun.sl.r_18
  exact pay31_at r_6_at r_7_at r_11_at r_12_at r_14_at r_15_at h3_at (load_one harg9 _ _) (load_one harg10 _ _)

theorem v238_at : Tile 0 le0 (lastRun.sl.v238 (F := Ideal) c arg3 harg3 arg4 harg4 arg12 harg12 arg13 harg13 arg14 harg14 arg15 arg16 harg16 x2 x3 s12 s13 s14 s16) (Hm x2 x3 s12 s13 s14 s16) := by
  unfold lastRun.sl.v238
  exact cov_tile _ 0 le0 _ _ _ (fun r l => H16_4_at _ _ l)

theorem v247_at : Tile 1024 le1 (lastRun.sl.v247 (F := Ideal) c arg3 harg3 arg4 harg4 arg12 harg12 arg13 harg13 arg14 harg14 arg15 arg16 harg16 x2 x3 s12 s13 s14 s16) (Hm x2 x3 s12 s13 s14 s16) := by
  unfold lastRun.sl.v247
  exact cov_tile _ 1024 le1 _ _ _ (fun r l => H16_4_at _ _ l)

theorem v256_at : Tile 2048 le2 (lastRun.sl.v256 (F := Ideal) c arg3 harg3 arg4 harg4 arg12 harg12 arg13 harg13 arg14 harg14 arg15 arg16 harg16 x2 x3 s12 s13 s14 s16) (Hm x2 x3 s12 s13 s14 s16) := by
  unfold lastRun.sl.v256
  exact cov_tile _ 2048 le2 _ _ _ (fun r l => H16_4_at _ _ l)

theorem v265_at : Tile 3072 le3 (lastRun.sl.v265 (F := Ideal) c arg3 harg3 arg4 harg4 arg12 harg12 arg13 harg13 arg14 harg14 arg15 arg16 harg16 x2 x3 s12 s13 s14 s16) (Hm x2 x3 s12 s13 s14 s16) := by
  unfold lastRun.sl.v265
  exact cov_tile _ 3072 le3 _ _ _ (fun r l => H16_4_at _ _ l)

theorem n0_at : Tile 0 le0 (k0_pay33 (lastRun.sl.r_19 (F := Ideal) c arg3 harg3 arg4 harg4 arg9 harg9 arg10 harg10 arg12 harg12 arg13 harg13 arg14 harg14 arg15 arg16 harg16 x2 x3 x8 x9 s12 s13 s14 s16)) (N0m x2 x3 x8 x9 s12 s13 s14 s16) := by
  unfold lastRun.sl.r_19
  exact pay33_at r_6_at r_7_at r_11_at r_12_at r_14_at r_15_at h3_at (load_one harg9 _ _) (load_one harg10 _ _) v238_at

theorem H13_4_at (f : arg13.view.ty.Contents (Elt Ideal)) (k : Fin 4096) (l : Fin 256) :
    arg13.view.read (Elt Ideal) (arg13.view.writes (Elt Ideal) f (lastRun.sl.H13_4 (F := Ideal) c arg3 harg3 arg4 harg4 arg9 harg9 arg10 harg10 arg12 harg12 arg13 harg13 arg14 harg14 arg15 arg16 harg16 x2 x3 x8 x9 s12 s13 s14 s16)) (ix2 k l) = (N0m x2 x3 x8 x9 s12 s13 s14 s16) k l := by
  unfold lastRun.sl.H13_4
  exact tiles4 _ _ _ _ _ _ _ _ _ _ [] _
    n0_at
    (pay34_at r_17_at r_18_at v247_at)
    (pay35_at r_17_at r_18_at v256_at)
    (pay36_at r_17_at r_18_at v265_at) k l

theorem v275_at : Reads (lastRun.sl.v275 (F := Ideal) c arg3 harg3 arg4 harg4 arg9 harg9 arg10 harg10 arg12 harg12 arg13 harg13 arg14 harg14 arg15 arg16 harg16 x2 x3 x8 x9 s12 s13 s14 s16) (N0m x2 x3 x8 x9 s12 s13 s14 s16) := by
  unfold lastRun.sl.v275
  exact cov_full _ _ _ _ (fun k l => H13_4_at _ k l)

theorem v281_at : Tile 0 le0 (lastRun.sl.v281 (F := Ideal) c arg3 harg3 arg4 harg4 arg9 harg9 arg10 harg10 arg12 harg12 arg13 harg13 arg14 harg14 arg15 arg16 harg16 x2 x3 x8 x9 s12 s13 s14 s16) (N0m x2 x3 x8 x9 s12 s13 s14 s16) := by
  unfold lastRun.sl.v281
  exact cov_tile _ 0 le0 _ _ _ (fun r l => H13_4_at _ _ l)

theorem v295_at : Tile 1024 le1 (lastRun.sl.v295 (F := Ideal) c arg3 harg3 arg4 harg4 arg9 harg9 arg10 harg10 arg12 harg12 arg13 harg13 arg14 harg14 arg15 arg16 harg16 x2 x3 x8 x9 s12 s13 s14 s16) (N0m x2 x3 x8 x9 s12 s13 s14 s16) := by
  unfold lastRun.sl.v295
  exact cov_tile _ 1024 le1 _ _ _ (fun r l => H13_4_at _ _ l)

theorem v309_at : Tile 2048 le2 (lastRun.sl.v309 (F := Ideal) c arg3 harg3 arg4 harg4 arg9 harg9 arg10 harg10 arg12 harg12 arg13 harg13 arg14 harg14 arg15 arg16 harg16 x2 x3 x8 x9 s12 s13 s14 s16) (N0m x2 x3 x8 x9 s12 s13 s14 s16) := by
  unfold lastRun.sl.v309
  exact cov_tile _ 2048 le2 _ _ _ (fun r l => H13_4_at _ _ l)

theorem v323_at : Tile 3072 le3 (lastRun.sl.v323 (F := Ideal) c arg3 harg3 arg4 harg4 arg9 harg9 arg10 harg10 arg12 harg12 arg13 harg13 arg14 harg14 arg15 arg16 harg16 x2 x3 x8 x9 s12 s13 s14 s16) (N0m x2 x3 x8 x9 s12 s13 s14 s16) := by
  unfold lastRun.sl.v323
  exact cov_tile _ 3072 le3 _ _ _ (fun r l => H13_4_at _ _ l)

theorem H14_4_at (f : arg14.view.ty.Contents (Elt Ideal)) (k : Fin 4096) (l : Fin 256) :
    arg14.view.read (Elt Ideal) (arg14.view.writes (Elt Ideal) f (lastRun.sl.H14_4 (F := Ideal) c arg3 harg3 arg4 harg4 arg9 harg9 arg10 harg10 arg12 harg12 arg13 harg13 arg14 harg14 arg15 arg16 harg16 x2 x3 x8 x9 s12 s13 s14 s16)) (ix2 k l) = (N1m x2 x3 x8 x9 s12 s13 s14 s16) k l := by
  unfold lastRun.sl.H14_4
  exact tiles4 _ _ _ _ _ _ _ _ _ _ [] _
    (pay37_at (load_tile harg12 _ 0 le0 _) v275_at)
    (pay39_at (load_tile harg12 _ 1024 le1 _) v275_at)
    (pay41_at (load_tile harg12 _ 2048 le2 _) v275_at)
    (pay44_at (load_tile harg12 _ 3072 le3 _) v275_at) k l

theorem v331_at : Reads (lastRun.sl.v331 (F := Ideal) c arg3 harg3 arg4 harg4 arg9 harg9 arg10 harg10 arg12 harg12 arg13 harg13 arg14 harg14 arg15 arg16 harg16 x2 x3 x8 x9 s12 s13 s14 s16) (N1m x2 x3 x8 x9 s12 s13 s14 s16) := by
  unfold lastRun.sl.v331
  exact cov_full _ _ _ _ (fun k l => H14_4_at _ k l)

theorem v342_at : Tile 0 le0 (lastRun.sl.v342 (F := Ideal) c arg3 harg3 arg4 harg4 arg9 harg9 arg10 harg10 arg12 harg12 arg13 harg13 arg14 harg14 arg15 arg16 harg16 x2 x3 x8 x9 s12 s13 s14 s16) (N1m x2 x3 x8 x9 s12 s13 s14 s16) := by
  unfold lastRun.sl.v342
  exact cov_tile _ 0 le0 _ _ _ (fun r l => H14_4_at _ _ l)

theorem v362_at : Tile 1024 le1 (lastRun.sl.v362 (F := Ideal) c arg3 harg3 arg4 harg4 arg9 harg9 arg10 harg10 arg12 harg12 arg13 harg13 arg14 harg14 arg15 arg16 harg16 x2 x3 x8 x9 s12 s13 s14 s16) (N1m x2 x3 x8 x9 s12 s13 s14 s16) := by
  unfold lastRun.sl.v362
  exact cov_tile _ 1024 le1 _ _ _ (fun r l => H14_4_at _ _ l)

theorem v382_at : Tile 2048 le2 (lastRun.sl.v382 (F := Ideal) c arg3 harg3 arg4 harg4 arg9 harg9 arg10 harg10 arg12 harg12 arg13 harg13 arg14 harg14 arg15 arg16 harg16 x2 x3 x8 x9 s12 s13 s14 s16) (N1m x2 x3 x8 x9 s12 s13 s14 s16) := by
  unfold lastRun.sl.v382
  exact cov_tile _ 2048 le2 _ _ _ (fun r l => H14_4_at _ _ l)

theorem v402_at : Tile 3072 le3 (lastRun.sl.v402 (F := Ideal) c arg3 harg3 arg4 harg4 arg9 harg9 arg10 harg10 arg12 harg12 arg13 harg13 arg14 harg14 arg15 arg16 harg16 x2 x3 x8 x9 s12 s13 s14 s16) (N1m x2 x3 x8 x9 s12 s13 s14 s16) := by
  unfold lastRun.sl.v402
  exact cov_tile _ 3072 le3 _ _ _ (fun r l => H14_4_at _ _ l)

theorem H15_8_at (f : arg15.view.ty.Contents (Elt Ideal)) (k : Fin 4096) (l : Fin 256) :
    arg15.view.read (Elt Ideal) (arg15.view.writes (Elt Ideal) f (lastRun.sl.H15_8 (F := Ideal) c arg3 harg3 arg4 harg4 arg9 harg9 arg10 harg10 arg12 harg12 arg13 harg13 arg14 harg14 arg15 arg16 harg16 x2 x3 x8 x9 s12 s13 s14 s16)) (ix2 k l) = (N2m x2 x3 x8 x9 s12 s13 s14 s16) k l := by
  unfold lastRun.sl.H15_8
  exact tiles4 _ _ _ _ _ _ _ _ _ _ _ _
    (pay46_at (load_tile harg12 _ 0 le0 _) v331_at v281_at)
    (pay48_at (load_tile harg12 _ 1024 le1 _) v331_at v295_at)
    (pay50_at r_2_at v331_at v309_at)
    (pay52_at (load_tile harg12 _ 3072 le3 _) v331_at v323_at) k l

theorem v413_at : Reads (lastRun.sl.v413 (F := Ideal) c arg3 harg3 arg4 harg4 arg9 harg9 arg10 harg10 arg12 harg12 arg13 harg13 arg14 harg14 arg15 arg16 harg16 x2 x3 x8 x9 s12 s13 s14 s16) (N2m x2 x3 x8 x9 s12 s13 s14 s16) := by
  unfold lastRun.sl.v413
  exact cov_full _ _ _ _ (fun k l => H15_8_at _ k l)

theorem v421_at : Tile 0 le0 (lastRun.sl.v421 (F := Ideal) c arg3 harg3 arg4 harg4 arg9 harg9 arg10 harg10 arg12 harg12 arg13 harg13 arg14 harg14 arg15 arg16 harg16 x2 x3 x8 x9 s12 s13 s14 s16) (N2m x2 x3 x8 x9 s12 s13 s14 s16) := by
  unfold lastRun.sl.v421
  exact cov_tile _ 0 le0 _ _ _ (fun r l => H15_8_at _ _ l)

theorem v452_at : Tile 1024 le1 (lastRun.sl.v452 (F := Ideal) c arg3 harg3 arg4 harg4 arg9 harg9 arg10 harg10 arg12 harg12 arg13 harg13 arg14 harg14 arg15 arg16 harg16 x2 x3 x8 x9 s12 s13 s14 s16) (N2m x2 x3 x8 x9 s12 s13 s14 s16) := by
  unfold lastRun.sl.v452
  exact cov_tile _ 1024 le1 _ _ _ (fun r l => H15_8_at _ _ l)

theorem v483_at : Tile 2048 le2 (lastRun.sl.v483 (F := Ideal) c arg3 harg3 arg4 harg4 arg9 harg9 arg10 harg10 arg12 harg12 arg13 harg13 arg14 harg14 arg15 arg16 harg16 x2 x3 x8 x9 s12 s13 s14 s16) (N2m x2 x3 x8 x9 s12 s13 s14 s16) := by
  unfold lastRun.sl.v483
  exact cov_tile _ 2048 le2 _ _ _ (fun r l => H15_8_at _ _ l)

theorem v514_at : Tile 3072 le3 (lastRun.sl.v514 (F := Ideal) c arg3 harg3 arg4 harg4 arg9 harg9 arg10 harg10 arg12 harg12 arg13 harg13 arg14 harg14 arg15 arg16 harg16 x2 x3 x8 x9 s12 s13 s14 s16) (N2m x2 x3 x8 x9 s12 s13 s14 s16) := by
  unfold lastRun.sl.v514
  exact cov_tile _ 3072 le3 _ _ _ (fun r l => H15_8_at _ _ l)

theorem p2_at : Tile 2048 le2 (k0_pay43 (lastRun.sl.v309 (F := Ideal) c arg3 harg3 arg4 harg4 arg9 harg9 arg10 harg10 arg12 harg12 arg13 harg13 arg14 harg14 arg15 arg16 harg16 x2 x3 x8 x9 s12 s13 s14 s16) (lastRun.sl.r_21 (F := Ideal) c arg7 harg7 x6)) (P0m x6 x2 x3 x8 x9 s12 s13 s14 s16) := by
  unfold lastRun.sl.r_21
  exact pay43_at r_1_at v309_at

theorem H16_8_at (f : arg16.view.ty.Contents (Elt Ideal)) (k : Fin 4096) (l : Fin 256) :
    arg16.view.read (Elt Ideal) (arg16.view.writes (Elt Ideal) f (lastRun.sl.H16_8 (F := Ideal) c arg3 harg3 arg4 harg4 arg7 harg7 arg9 harg9 arg10 harg10 arg12 harg12 arg13 harg13 arg14 harg14 arg15 arg16 harg16 x2 x3 x6 x8 x9 s12 s13 s14 s16)) (ix2 k l) = (P0m x6 x2 x3 x8 x9 s12 s13 s14 s16) k l := by
  unfold lastRun.sl.H16_8
  exact tiles4 _ _ _ _ _ _ _ _ _ _ _ _
    (pay38_at r_1_at v281_at)
    (pay40_at r_1_at v295_at)
    p2_at
    (pay45_at r_1_at v323_at) k l

theorem v341_at : Tile 0 le0 (lastRun.sl.v341 (F := Ideal) c arg3 harg3 arg4 harg4 arg7 harg7 arg9 harg9 arg10 harg10 arg12 harg12 arg13 harg13 arg14 harg14 arg15 arg16 harg16 x2 x3 x6 x8 x9 s12 s13 s14 s16) (P0m x6 x2 x3 x8 x9 s12 s13 s14 s16) := by
  unfold lastRun.sl.v341
  refine cov_tile _ 0 le0 _ _ _ (fun r l => ?_)
  exact H16_8_at _ _ l

theorem v361_at : Tile 1024 le1 (lastRun.sl.v361 (F := Ideal) c arg3 harg3 arg4 harg4 arg7 harg7 arg9 harg9 arg10 harg10 arg12 harg12 arg13 harg13 arg14 harg14 arg15 arg16 harg16 x2 x3 x6 x8 x9 s12 s13 s14 s16) (P0m x6 x2 x3 x8 x9 s12 s13 s14 s16) := by
  unfold lastRun.sl.v361
  refine cov_tile _ 1024 le1 _ _ _ (fun r l => ?_)
  unfold lastRun.sl.H16_9
  rw [read_miss _ _ 0 _ _ _ _ _ (.inr (by show 0 + 1024 ≤ 1024 + r.val; omega))]
  exact H16_8_at _ _ l

theorem v381_at : Tile 2048 le2 (lastRun.sl.v381 (F := Ideal) c arg3 harg3 arg4 harg4 arg7 harg7 arg9 harg9 arg10 harg10 arg12 harg12 arg13 harg13 arg14 harg14 arg15 arg16 harg16 x2 x3 x6 x8 x9 s12 s13 s14 s16) (P0m x6 x2 x3 x8 x9 s12 s13 s14 s16) := by
  unfold lastRun.sl.v381
  refine cov_tile _ 2048 le2 _ _ _ (fun r l => ?_)
  unfold lastRun.sl.H16_10
  rw [read_miss _ _ 1024 _ _ _ _ _ (.inr (by show 1024 + 1024 ≤ 2048 + r.val; omega))]
  unfold lastRun.sl.H16_9
  rw [read_miss _ _ 0 _ _ _ _ _ (.inr (by show 0 + 1024 ≤ 2048 + r.val; omega))]
  exact H16_8_at _ _ l

theorem v401_at : Tile 3072 le3 (lastRun.sl.v401 (F := Ideal) c arg3 harg3 arg4 harg4 arg7 harg7 arg9 harg9 arg10 harg10 arg12 harg12 arg13 harg13 arg14 harg14 arg15 arg16 harg16 x2 x3 x6 x8 x9 s12 s13 s14 s16) (P0m x6 x2 x3 x8 x9 s12 s13 s14 s16) := by
  unfold lastRun.sl.v401
  refine cov_tile _ 3072 le3 _ _ _ (fun r l => ?_)
  unfold lastRun.sl.H16_11
  rw [read_miss _ _ 2048 _ _ _ _ _ (.inr (by show 2048 + 1024 ≤ 3072 + r.val; omega))]
  unfold lastRun.sl.H16_10
  rw [read_miss _ _ 1024 _ _ _ _ _ (.inr (by show 1024 + 1024 ≤ 3072 + r.val; omega))]
  unfold lastRun.sl.H16_9
  rw [read_miss _ _ 0 _ _ _ _ _ (.inr (by show 0 + 1024 ≤ 3072 + r.val; omega))]
  exact H16_8_at _ _ l

theorem H16_12_at (f : arg16.view.ty.Contents (Elt Ideal)) (k : Fin 4096) (l : Fin 256) :
    arg16.view.read (Elt Ideal) (arg16.view.writes (Elt Ideal) f (lastRun.sl.H16_12 (F := Ideal) c arg3 harg3 arg4 harg4 arg7 harg7 arg9 harg9 arg10 harg10 arg12 harg12 arg13 harg13 arg14 harg14 arg15 arg16 harg16 x2 x3 x6 x8 x9 s12 s13 s14 s16)) (ix2 k l) = (P1m x6 x2 x3 x8 x9 s12 s13 s14 s16) k l := by
  unfold lastRun.sl.H16_12 lastRun.sl.H16_11 lastRun.sl.H16_10 lastRun.sl.H16_9
  exact tiles4 _ _ _ _ _ _ _ _ _ _ _ _
    (pay47_at r_1_at v341_at v342_at)
    (pay49_at r_1_at v361_at v362_at)
    (pay51_at r_1_at v381_at v382_at)
    (pay53_at r_1_at v401_at v402_at) k l

theorem v420_at : Tile 0 le0 (lastRun.sl.v420 (F := Ideal) c arg3 harg3 arg4 harg4 arg7 harg7 arg9 harg9 arg10 harg10 arg12 harg12 arg13 harg13 arg14 harg14 arg15 arg16 harg16 x2 x3 x6 x8 x9 s12 s13 s14 s16) (P1m x6 x2 x3 x8 x9 s12 s13 s14 s16) := by
  unfold lastRun.sl.v420
  exact cov_tile _ 0 le0 _ _ _ (fun r l => H16_12_at _ _ l)

theorem v451_at : Tile 1024 le1 (lastRun.sl.v451 (F := Ideal) c arg3 harg3 arg4 harg4 arg7 harg7 arg9 harg9 arg10 harg10 arg12 harg12 arg13 harg13 arg14 harg14 arg15 arg16 harg16 x2 x3 x6 x8 x9 s12 s13 s14 s16) (P1m x6 x2 x3 x8 x9 s12 s13 s14 s16) := by
  unfold lastRun.sl.v451
  exact cov_tile _ 1024 le1 _ _ _ (fun r l => H16_12_at _ _ l)

theorem v482_at : Tile 2048 le2 (lastRun.sl.v482 (F := Ideal) c arg3 harg3 arg4 harg4 arg7 harg7 arg9 harg9 arg10 harg10 arg12 harg12 arg13 harg13 arg14 harg14 arg15 arg16 harg16 x2 x3 x6 x8 x9 s12 s13 s14 s16) (P1m x6 x2 x3 x8 x9 s12 s13 s14 s16) := by
  unfold lastRun.sl.v482
  exact cov_tile _ 2048 le2 _ _ _ (fun r l => H16_12_at _ _ l)

theorem v513_at : Tile 3072 le3 (lastRun.sl.v513 (F := Ideal) c arg3 harg3 arg4 harg4 arg7 harg7 arg9 harg9 arg10 harg10 arg12 harg12 arg13 harg13 arg14 harg14 arg15 arg16 harg16 x2 x3 x6 x8 x9 s12 s13 s14 s16) (P1m x6 x2 x3 x8 x9 s12 s13 s14 s16) := by
  unfold lastRun.sl.v513
  exact cov_tile _ 3072 le3 _ _ _ (fun r l => H16_12_at _ _ l)

theorem o0_at : Tile 0 le0 (k0_pay55 (lastRun.sl.r_24 (F := Ideal) c arg2 harg2 arg3 harg3 arg4 harg4 arg7 harg7 arg9 harg9 arg10 harg10 arg12 harg12 arg13 harg13 arg14 harg14 arg15 arg16 harg16 arg17 harg17 x1 x2 x3 x6 x8 x9 s12 s13 s14 s16 s17) (View.readAt (Elt Ideal) arg8.view (Rect.unit (s := S1x256) ![0, 0] S1x256.size inb_S1x256_S1x256_0_0).toLoadRect (harg8.unread x7))) (last (mat s12) (N0m x2 x3 x8 x9 s12 s13 s14 s16) (N1m x2 x3 x8 x9 s12 s13 s14 s16) (mat x1) (fun l => s17 (ix2 0 l)) (fun l => s17 (ix2 1 l)) (wts x6) (rowv x7)) := by
  unfold lastRun.sl.r_24
  exact out0_at r_1_at (load_row harg17 _ 0 _) (load_row harg17 _ 1 _) (load_tile harg12 _ 0 le0 _) v413_at v342_at v420_at v421_at (load_tile harg2 _ 0 le0 _) (load_one harg8 _ _)

theorem o1_at : Tile 1024 le1 (k0_pay58 (lastRun.sl.r_25 (F := Ideal) c arg2 harg2 arg3 harg3 arg4 harg4 arg7 harg7 arg8 harg8 arg9 harg9 arg10 harg10 arg12 harg12 arg13 harg13 arg14 harg14 arg15 arg16 harg16 arg17 harg17 x1 x2 x3 x6 x7 x8 x9 s12 s13 s14 s16 s17) k0_pay57) (last (mat s12) (N0m x2 x3 x8 x9 s12 s13 s14 s16) (N1m x2 x3 x8 x9 s12 s13 s14 s16) (mat x1) (fun l => s17 (ix2 0 l)) (fun l => s17 (ix2 1 l)) (wts x6) (rowv x7)) := by
  unfold lastRun.sl.r_25
  exact out1_at r_1_at r_22_at r_23_at (load_tile harg12 _ 1024 le1 _) v413_at v362_at v451_at v452_at (load_tile harg2 _ 1024 le1 _) (load_one harg8 _ _)

theorem o3_at : Tile 3072 le3 (k0_pay1 (lastRun.sl.r_26 (F := Ideal) c arg2 harg2 arg3 harg3 arg4 harg4 arg7 harg7 arg8 harg8 arg9 harg9 arg10 harg10 arg12 harg12 arg13 harg13 arg14 harg14 arg15 arg16 harg16 arg17 harg17 x1 x2 x3 x6 x7 x8 x9 s12 s13 s14 s16 s17) k0_pay61) (last (mat s12) (N0m x2 x3 x8 x9 s12 s13 s14 s16) (N1m x2 x3 x8 x9 s12 s13 s14 s16) (mat x1) (fun l => s17 (ix2 0 l)) (fun l => s17 (ix2 1 l)) (wts x6) (rowv x7)) := by
  unfold lastRun.sl.r_26
  exact out3_at r_1_at r_22_at r_23_at (load_tile harg12 _ 3072 le3 _) v413_at v402_at v513_at v514_at (load_tile harg2 _ 3072 le3 _) (load_one harg8 _ _)

end Values

variable (c : Dev nD) (i : grid0.Coords)
  (arg1 : Memref sig .tc .vmem S256x4096 .f32) (harg1 : arg1.IsWhole)
  (arg2 : Memref sig .tc .vmem S4096x256 .f32) (harg2 : arg2.IsWhole)
  (arg3 : Memref sig .tc .vmem S4x256x256 .bf16) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S4x256x256 .bf16) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S4096x256 .f32) (harg11 : arg11.IsWhole)
  (arg12 : Memref sig .tc .vmem S4096x4096 .bf16) (harg12 : arg12.IsWhole)
  (arg13 : Memref sig .tc .vmem S4096x256 .bf16) (harg13 : arg13.IsWhole)
  (arg14 : Memref sig .tc .vmem S4096x256 .bf16) (harg14 : arg14.IsWhole)
  (arg15 : Memref sig .tc .vmem S4096x256 .bf16) (harg15 : arg15.IsWhole)
  (arg16 : Memref sig .tc .vmem S4096x256 .f32) (harg16 : arg16.IsWhole)
  (arg17 : Memref sig .tc .vmem S2x256 .f32) (harg17 : arg17.IsWhole)
  (x1 : Vec Ideal S4096x256 .f32) (x2 : Vec Ideal S4x256x256 .bf16) (x3 x4 x5 : Vec Ideal S1x256 .f32) (x6 : Vec Ideal S4x256x256 .bf16) (x7 x8 x9 : Vec Ideal S1x256 .f32)
  (s12 : Vec Ideal S4096x4096 .bf16) (s13 s14 : Vec Ideal S4096x256 .bf16) (s16 : Vec Ideal S4096x256 .f32) (s17 : Vec Ideal S2x256 .f32)

/-- What the last point leaves in the output's buffer. -/
theorem last_at (f : arg11.view.ty.Contents (Elt Ideal)) (k : Fin 4096) (l : Fin 256) :
    arg11.view.read (Elt Ideal) (arg11.view.writes (Elt Ideal) f
      (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 s12 s13 s14 s16 s17).1) (ix2 k l)
      = last (mat s12) (N0m x2 x3 x8 x9 s12 s13 s14 s16) (N1m x2 x3 x8 x9 s12 s13 s14 s16) (mat x1) (fun l => s17 (ix2 0 l)) (fun l => s17 (ix2 1 l)) (wts x6) (rowv x7) k l := by
  unfold lastRun
  exact tiles4 _ _ _ _ _ _ _ _ _ _ [] _
    o0_at
    o1_at
    (out2_at r_1_at r_22_at r_23_at (load_tile harg12 _ 2048 le2 _) v413_at v382_at v482_at v483_at (load_tile harg2 _ 2048 le2 _) (load_one harg8 _ _))
    o3_at k l

end Cert.KernelIdeal.Hand

end
-- ==== Proof.Blocks.lean ====
/-
  The windows' blocks, in exact arithmetic, as entries of the kernel's arguments.
-/
module

public import proofs.«01_k».proof.Proof.LastValues
public import proofs.«01_k».proof.Proof.StateI

@[expose] public section

set_option maxRecDepth 16384

noncomputable section

open Idealize.ShloMosaic Idealize.ShloMosaic.TcCoe Idealize.SL.Sem

namespace Cert.KernelIdeal.Hand

open Cert.KernelIdeal Cert.KernelIdeal.Gen

open VecWindow (put window)

variable (m : (ℓ : Loc nD τ sig) → Buf (Elt Ideal) ℓ) (c : Dev nD)

/-- Where every window's block lies: the operator's rows go with the point, every other window is its whole array. -/
theorem idx : ∀ t : Fin cfg0.N, win0_0.index t = ![t.val, 0] ∧ win0_1.index t = ![0, 0] ∧ win0_2.index t = ![0, 0, 0] ∧ win0_3.index t = ![0, 0]
    ∧ win0_4.index t = ![0, 0] ∧ win0_5.index t = ![0, 0] ∧ win0_6.index t = ![0, 0, 0] ∧ win0_7.index t = ![0, 0] ∧ win0_8.index t = ![0, 0]
    ∧ win0_9.index t = ![0, 0] ∧ win0_10.index t = ![0, 0] :=
  (by decide +kernel : ∀ t : Fin grid0.N, _)

/-- The arguments. -/
abbrev argX : FVec Ideal S4096x256 .f32 := m ((c : Thread nD τ).loc main_arg0)
abbrev argL : FVec Ideal S4096x4096 .f32 := m ((c : Thread nD τ).loc main_arg1)
abbrev argG1 : FVec Ideal S256 .f32 := m ((c : Thread nD τ).loc main_arg2)
abbrev argE1 : FVec Ideal S256 .f32 := m ((c : Thread nD τ).loc main_arg3)
abbrev argW1 : FVec Ideal S4x256x256 .f32 := m ((c : Thread nD τ).loc main_arg4)
abbrev argB1 : FVec Ideal S256 .f32 := m ((c : Thread nD τ).loc main_arg5)
abbrev argG2 : FVec Ideal S256 .f32 := m ((c : Thread nD τ).loc main_arg6)
abbrev argE2 : FVec Ideal S256 .f32 := m ((c : Thread nD τ).loc main_arg7)
abbrev argW2 : FVec Ideal S4x256x256 .f32 := m ((c : Thread nD τ).loc main_arg8)
abbrev argB2 : FVec Ideal S256 .f32 := m ((c : Thread nD τ).loc main_arg9)

theorem blk0_at (t : Fin cfg0.N) (r : Fin 256) (q : Fin 4096) (k : Fin 4096) (hk : k.val = t.val * 256 + r.val) :
    (show FVec Ideal S256x4096 .f32 from iblk m c 0 t) (ix2 r q) = argL m c (ix2 k q) := by
  have e := (idx t).1
  blk_point [iblk, V, e]
  all_goals try omega

theorem blk1_eq (t : Fin cfg0.N) : (show FVec Ideal S4096x256 .f32 from iblk m c 1 t) = argX m c := by
  funext y
  idx_vars y
  have e := (idx t).2.1
  blk_point [iblk, V, e]

theorem blk2_at (t : Fin cfg0.N) (a : Fin 4) (k l : Fin 256) : (show FVec Ideal S4x256x256 .bf16 from iblk m c 2 t) (ix3 a k l) = argW1 m c (ix3 a k l) := by
  have e := (idx t).2.2.1
  blk_point [iblk, V, e]

theorem blk6_at (t : Fin cfg0.N) (a : Fin 4) (k l : Fin 256) : (show FVec Ideal S4x256x256 .bf16 from iblk m c 6 t) (ix3 a k l) = argW2 m c (ix3 a k l) := by
  have e := (idx t).2.2.2.2.2.2.1
  blk_point [iblk, V, e]

theorem blk3_at (t : Fin cfg0.N) (l : Fin 256) : (show FVec Ideal S1x256 .f32 from iblk m c 3 t) (ix2 0 l) = argB1 m c (ix1 l) := by
  have e := (idx t).2.2.2.1
  blk_point [iblk, V, e]

theorem blk4_at (t : Fin cfg0.N) (l : Fin 256) : (show FVec Ideal S1x256 .f32 from iblk m c 4 t) (ix2 0 l) = argG1 m c (ix1 l) := by
  have e := (idx t).2.2.2.2.1
  blk_point [iblk, V, e]

theorem blk5_at (t : Fin cfg0.N) (l : Fin 256) : (show FVec Ideal S1x256 .f32 from iblk m c 5 t) (ix2 0 l) = argE1 m c (ix1 l) := by
  have e := (idx t).2.2.2.2.2.1
  blk_point [iblk, V, e]

theorem blk7_at (t : Fin cfg0.N) (l : Fin 256) : (show FVec Ideal S1x256 .f32 from iblk m c 7 t) (ix2 0 l) = argB2 m c (ix1 l) := by
  have e := (idx t).2.2.2.2.2.2.2.1
  blk_point [iblk, V, e]

theorem blk8_at (t : Fin cfg0.N) (l : Fin 256) : (show FVec Ideal S1x256 .f32 from iblk m c 8 t) (ix2 0 l) = argG2 m c (ix1 l) := by
  have e := (idx t).2.2.2.2.2.2.2.2.1
  blk_point [iblk, V, e]

theorem blk9_at (t : Fin cfg0.N) (l : Fin 256) : (show FVec Ideal S1x256 .f32 from iblk m c 9 t) (ix2 0 l) = argE2 m c (ix1 l) := by
  have e := (idx t).2.2.2.2.2.2.2.2.2.1
  blk_point [iblk, V, e]

end Cert.KernelIdeal.Hand

end
-- ==== Proof.Whole.lean ====
/-
  The whole run in exact arithmetic: the scratch buffers' contents and the result as functions of the arguments' matrices.
-/
module

public import proofs.«01_k».proof.Proof.Blocks

@[expose] public section

set_option maxRecDepth 16384

noncomputable section

open Idealize.ShloMosaic Idealize.ShloMosaic.TcCoe Idealize.SL.Sem

namespace Cert.KernelIdeal.Hand

open Cert.KernelIdeal Cert.KernelIdeal.Gen

open VecWindow (put window)

variable (m : (ℓ : Loc nD τ sig) → Buf (Elt Ideal) ℓ) (c : Dev nD)

/-! ## The first normalisation -/

/-- The numeral 4096 as the kernel spells it. -/
abbrev n4096 : EReal := Ideal.ofBits .f32 0x45800000#32

/-- A column's mean. -/
def mean1 {n : ℕ} (X : Fin n → Fin 256 → EReal) : Fin 256 → EReal := fun l => Ideal.div (∑ k, X k l) n4096

/-- A column's variance: the mean of the squared distances from the mean. -/
def var1 {n : ℕ} (X : Fin n → Fin 256 → EReal) : Fin 256 → EReal := fun l => Ideal.div (∑ k, (X k l - mean1 X l) * (X k l - mean1 X l)) n4096

/-- The first normalisation's scale. -/
def scale1 {n : ℕ} (X : Fin n → Fin 256 → EReal) (g : Fin 256 → EReal) : Fin 256 → EReal := fun l => Ideal.div (g l) (Ideal.sqrt (var1 X l + eps))

/-- The first normalisation's offset. -/
def offs1 {n : ℕ} (X : Fin n → Fin 256 → EReal) (g be : Fin 256 → EReal) : Fin 256 → EReal := fun l => be l - mean1 X l * scale1 X g l

/-- The vector of an array of one axis. -/
def vec {n : ℕ} (w : (⟨1, ![n]⟩ : Shape).Idx → EReal) : Fin n → EReal := fun l => w (ix1 l)

section Terms

variable (X : Fin 4096 → Fin 256 → EReal) (L : Fin 4096 → Fin 4096 → EReal) (g1 e1 : Fin 256 → EReal) (W1 : Fin 4 → Fin 256 → Fin 256 → EReal) (b1 g2 e2 : Fin 256 → EReal)
  (W2 : Fin 4 → Fin 256 → Fin 256 → EReal) (b2 : Fin 256 → EReal)

/-- The kernel's normalised input. -/
def kT0 : Fin 4096 → Fin 256 → EReal := affine X (scale1 X g1) (offs1 X g1 e1)

/-- The kernel's first layer after the rectifier. -/
def kH : Fin 4096 → Fin 256 → EReal :=
  hid L (kT0 X g1 e1) (prod L (kT0 X g1 e1)) (fun k l => prod (kT0 X g1 e1) (W1 0) k l + prod (prod L (kT0 X g1 e1)) (W1 1) k l) W1 b1

/-- The kernel's second layer's input. -/
def kN0 : Fin 4096 → Fin 256 → EReal := affine (kH X L g1 e1 W1 b1) (scale2 (kH X L g1 e1 W1 b1) g2) (offs2 (kH X L g1 e1 W1 b1) g2 e2)

/-- The kernel's result. -/
def kOut : Fin 4096 → Fin 256 → EReal :=
  last L (kN0 X L g1 e1 W1 b1 g2 e2) (prod L (kN0 X L g1 e1 W1 b1 g2 e2)) X (scale1 X g1) (offs1 X g1 e1) W2 b2

end Terms

/-! ## Rows put in their places -/

/-- A block of 256 rows put over an array, read at one of its rows. -/
theorem put_row {α : Type} {p o : ℕ} (x : (⟨2, ![4096, p]⟩ : Shape).Idx → α) (off : Fin 2 → ℕ) (hoff : off = ![o, 0]) (w : (⟨2, ![256, p]⟩ : Shape).Idx → α)
    (k : Fin 4096) (l : Fin p) (r : Fin 256) (hk : k.val = o + r.val) : put (s := ⟨2, ![4096, p]⟩) x off ![256, p] w (ix2 k l) = w (ix2 r l) := by
  subst hoff
  have hl := l.isLt
  unfold put
  rw [dif_pos (fun a => by
    fin_cases a
    · show o ≤ k.val ∧ k.val < o + 256
      omega
    · show 0 ≤ l.val ∧ l.val < 0 + p
      omega)]
  refine congrArg w (funext fun a => Fin.ext ?_)
  fin_cases a
  · show k.val - o = r.val
    omega
  · show l.val - 0 = l.val
    omega

theorem row_lt (k : Fin 4096) : k.val % 256 < 256 := Nat.mod_lt _ (by decide)

theorem row_split (k : Fin 4096) : k.val = 256 * (ptOf k).val + (⟨k.val % 256, row_lt k⟩ : Fin 256).val := by
  show k.val = 256 * (k.val / 256) + k.val % 256
  omega

/-! ## The scratch buffers -/

/-- The operator's copy is the operator. -/
theorem copyL_at : mat (copyL m c) = mat (argL m c) := by
  funext k q
  unfold mat copyL next12
  refine (put_row _ _ (off1_eq (ptOf k)) _ k q ⟨k.val % 256, row_lt k⟩ (row_split k)).trans ?_
  pointwise [k0_pay69, k0_pay68]
  exact blk0_at m c (ptOf k) _ q k ((row_split k).trans (by rw [Nat.mul_comm]))

/-- The normalised input. -/
theorem T0_at : mat (T0 m c) = kT0 (mat (argX m c)) (vec (argG1 m c)) (vec (argE1 m c)) := by
  funext k l
  have e1 : (iblk m c 1 pt0 : FVec Ideal S4096x256 .f32) = argX m c := blk1_eq m c pt0
  have e4 : ∀ l, (iblk m c 4 pt0 : FVec Ideal S1x256 .f32) (ix2 0 l) = argG1 m c (ix1 l) := blk4_at m c pt0
  have e5 : ∀ l, (iblk m c 5 pt0 : FVec Ideal S1x256 .f32) (ix2 0 l) = argE1 m c (ix1 l) := blk5_at m c pt0
  unfold mat T0 first13
  rw [e1]
  pointwise [k0_pay67, k0_pay64, k0_pay63, k0_pay62]
  rw [e4, e5]
  rfl

/-- The normalisation's scale, as it is kept. -/
theorem rows0_at (l : Fin 256) : rows m c (ix2 0 l) = scale1 (mat (argX m c)) (vec (argG1 m c)) l := by
  have e1 : (iblk m c 1 pt0 : FVec Ideal S4096x256 .f32) = argX m c := blk1_eq m c pt0
  have e4 : ∀ l, (iblk m c 4 pt0 : FVec Ideal S1x256 .f32) (ix2 0 l) = argG1 m c (ix1 l) := blk4_at m c pt0
  unfold rows first17
  rw [put_out _ _ _ _ _ (fun h => absurd (show 1 ≤ 0 from (h 0).1) (by decide))]
  unfold put
  rw [dif_pos (fun a => by
    fin_cases a
    · exact ⟨Nat.le_refl 0, Nat.one_pos⟩
    · exact ⟨Nat.zero_le _, (Nat.zero_add 256).symm ▸ l.isLt⟩)]
  rw [e1]
  refine (congrArg (k0_pay65 (F := Ideal) (argX m c) (iblk m c 4 pt0)) (show _ = ix2 0 l from funext fun a => Fin.ext (by fin_cases a <;> rfl))).trans ?_
  pointwise [k0_pay65, k0_pay63, k0_pay62]
  rw [e4]
  rfl

/-- The normalisation's offset, as it is kept. -/
theorem rows1_at (l : Fin 256) : rows m c (ix2 1 l) = offs1 (mat (argX m c)) (vec (argG1 m c)) (vec (argE1 m c)) l := by
  have e1 : (iblk m c 1 pt0 : FVec Ideal S4096x256 .f32) = argX m c := blk1_eq m c pt0
  have e4 : ∀ l, (iblk m c 4 pt0 : FVec Ideal S1x256 .f32) (ix2 0 l) = argG1 m c (ix1 l) := blk4_at m c pt0
  have e5 : ∀ l, (iblk m c 5 pt0 : FVec Ideal S1x256 .f32) (ix2 0 l) = argE1 m c (ix1 l) := blk5_at m c pt0
  unfold rows first17
  unfold put
  rw [dif_pos (fun a => by
    fin_cases a
    · exact ⟨Nat.le_refl 1, Nat.lt_succ_self 1⟩
    · exact ⟨Nat.zero_le _, (Nat.zero_add 256).symm ▸ l.isLt⟩)]
  rw [e1]
  refine (congrArg (k0_pay66 (F := Ideal) (argX m c) (iblk m c 4 pt0) (iblk m c 5 pt0)) (show _ = ix2 0 l from funext fun a => Fin.ext (by fin_cases a <;> rfl))).trans ?_
  pointwise [k0_pay66, k0_pay64, k0_pay63, k0_pay62]
  rw [e4, e5]
  rfl

/-- The operator times the normalised input. -/
theorem T1_at : mat (T1 m c) = prod (mat (argL m c)) (mat (T0 m c)) := by
  funext k l
  unfold mat T1 next14
  refine (put_row _ _ (off2_eq (ptOf k)) _ k l ⟨k.val % 256, row_lt k⟩ (row_split k)).trans ?_
  pointwise [k0_pay71, k0_pay70, k0_pay68]
  unfold prod
  refine Finset.sum_congr rfl fun q _ => congrArg (· * _) ?_
  exact blk0_at m c (ptOf k) _ q k ((row_split k).trans (by rw [Nat.mul_comm]))

/-- The first two terms of the first layer. -/
theorem acc01_at : mat (acc01 m c) = fun k l => prod (mat (T0 m c)) (wts (argW1 m c) 0) k l + prod (prod (mat (argL m c)) (mat (T0 m c))) (wts (argW1 m c) 1) k l := by
  funext k l
  unfold mat acc01 next16
  refine (put_row _ _ (off2_eq (ptOf k)) _ k l ⟨k.val % 256, row_lt k⟩ (row_split k)).trans ?_
  unfold pay16
  pointwise [k0_pay72, k0_pay70, k0_pay68]
  unfold prod
  refine congrArg₂ (· + ·) (Finset.sum_congr rfl fun q _ => congrArg₂ (· * ·) ?_ ?_) (Finset.sum_congr rfl fun q _ => congrArg₂ (· * ·) (Finset.sum_congr rfl fun p _ => congrArg (· * _) ?_) ?_)
  · refine congrArg (T0 m c) (funext fun a => Fin.ext ?_)
    fin_cases a
    · show k0_off2 (grid0.coords (ptOf k)) 0 + 1 * (k.val % 256) = k.val
      rw [off2_eq]
      show 256 * (k.val / 256) + 1 * (k.val % 256) = k.val
      omega
    · show k0_off2 (grid0.coords (ptOf k)) 1 + 1 * q.val = q.val
      rw [off2_eq]
      show 0 + 1 * q.val = q.val
      omega
  · refine Eq.trans ?_ (blk2_at m c (ptOf k) 0 q l)
    refine congrArg (iblk m c 2 (ptOf k)) (funext fun a => Fin.ext ?_)
    fin_cases a
    · rfl
    · show 0 + 1 * q.val = q.val
      omega
    · show 0 + 1 * l.val = l.val
      omega
  · exact blk0_at m c (ptOf k) _ p k ((row_split k).trans (by rw [Nat.mul_comm]))
  · refine Eq.trans ?_ (blk2_at m c (ptOf k) 1 q l)
    refine congrArg (iblk m c 2 (ptOf k)) (funext fun a => Fin.ext ?_)
    fin_cases a
    · rfl
    · show 0 + 1 * q.val = q.val
      omega
    · show 0 + 1 * l.val = l.val
      omega

/-! ## The result -/

/-- What the last point leaves in the output's buffer, as a function of the arguments. -/
theorem outAt_at (t : Fin cfg0.N) (k : Fin 4096) (l : Fin 256) : outAt m c t (ix2 k l)
    = kOut (mat (argX m c)) (mat (argL m c)) (vec (argG1 m c)) (vec (argE1 m c)) (wts (argW1 m c)) (vec (argB1 m c)) (vec (argG2 m c)) (vec (argE2 m c)) (wts (argW2 m c)) (vec (argB2 m c)) k l := by
  have w2 : wts (iblk m c 2 t : FVec Ideal S4x256x256 .bf16) = wts (argW1 m c) := funext fun a => funext fun k => funext fun l => blk2_at m c t a k l
  have w6 : wts (iblk m c 6 t : FVec Ideal S4x256x256 .bf16) = wts (argW2 m c) := funext fun a => funext fun k => funext fun l => blk6_at m c t a k l
  have v3 : rowv (iblk m c 3 t : FVec Ideal S1x256 .f32) = vec (argB1 m c) := funext fun l => blk3_at m c t l
  have v7 : rowv (iblk m c 7 t : FVec Ideal S1x256 .f32) = vec (argB2 m c) := funext fun l => blk7_at m c t l
  have v8 : rowv (iblk m c 8 t : FVec Ideal S1x256 .f32) = vec (argG2 m c) := funext fun l => blk8_at m c t l
  have v9 : rowv (iblk m c 9 t : FVec Ideal S1x256 .f32) = vec (argE2 m c) := funext fun l => blk9_at m c t l
  have x1 : mat (iblk m c 1 t : FVec Ideal S4096x256 .f32) = mat (argX m c) := congrArg mat (blk1_eq m c t)
  have s0 : (fun l => rows m c (ix2 0 l)) = scale1 (mat (argX m c)) (vec (argG1 m c)) := funext fun l => rows0_at m c l
  have s1 : (fun l => rows m c (ix2 1 l)) = offs1 (mat (argX m c)) (vec (argG1 m c)) (vec (argE1 m c)) := funext fun l => rows1_at m c l
  unfold outAt outPieces
  refine (last_at _ _ _ _ _ _ _ _ _ _ _ _ _ _ _ _ _ _ _ _ _ _ _ _ _ _ _ _ _ _ _ _ _ _ _ _ _ _ _ _ _ _ _ _ _ _ _ _ _ _ _ k l).trans ?_
  unfold N1m N0m Sm Om Hm
  rw [w2, w6, v3, v7, v8, v9, x1, s0, s1, acc01_at, T1_at, copyL_at, T0_at]
  rfl

end Cert.KernelIdeal.Hand

end
-- ==== Proof.Norm.lean ====
/-
  The two normalisations: the kernel's scale and offset forms against the reference's, on the extended reals.
-/
module

public import proofs.«01_k».proof.Proof.Whole

@[expose] public section

set_option maxRecDepth 16384

noncomputable section

open Idealize.ShloMosaic Idealize.ShloMosaic.TcCoe Idealize.SL.Sem

namespace Cert.KernelIdeal.Hand

open Cert.KernelIdeal Cert.KernelIdeal.Gen

/-! ## Numerals -/

/-- The numeral 4096. -/
theorem n4096_eq : n4096 = ((4096 : ℝ) : EReal) := by
  simp [n4096, Ideal.ofBits, Ideal.ieee, -EReal.coe_mul]
  norm_num

/-- The numeral 1/4096. -/
theorem inv4096_eq : inv4096 = ((1 / 4096 : ℝ) : EReal) := by
  simp [inv4096, Ideal.ofBits, Ideal.ieee, -EReal.coe_mul]
  norm_num

/-- The number two, from the bf16 and from the f32 numeral. -/
theorem two_eq : two = Ideal.ofBits .f32 0x40000000#32 := by
  simp [two, Ideal.ofBits, Ideal.ieee, -EReal.coe_mul]
  norm_num

/-- The constant added to a variance is a positive real. -/
theorem eps_real : ∃ e : ℝ, 0 < e ∧ eps = (e : EReal) := by
  refine ⟨_, ?_, by simp [eps, Ideal.ofBits, Ideal.ieee, -EReal.coe_mul]; rfl⟩
  norm_num

/-- Division by 4096 is the product with its reciprocal. -/
theorem div_n4096 (x : EReal) : Ideal.div x n4096 = x * inv4096 := by
  rw [n4096_eq, inv4096_eq, Ideal.div_coe (by norm_num)]

/-- Division by an infinity is zero. -/
theorem div_top (x : EReal) : Ideal.div x ⊤ = 0 := by simp [Ideal.div]

theorem div_bot (x : EReal) : Ideal.div x ⊥ = 0 := by simp [Ideal.div]

/-! ## Sums -/

/-- A sum of reals is real. -/
theorem sum_real {n : ℕ} (r : Fin n → ℝ) : (∑ k, (r k : EReal)) = ((∑ k, r k : ℝ) : EReal) := by
  induction n with
  | zero => simp
  | succ n ih => rw [Fin.sum_univ_succ, Fin.sum_univ_succ, ih, EReal.coe_add]

/-- A sum with a term −∞ is −∞. -/
theorem sum_bot {n : ℕ} (x : Fin n → EReal) (k : Fin n) (h : x k = ⊥) : ∑ k, x k = ⊥ := by
  rw [← Finset.add_sum_erase _ _ (Finset.mem_univ k), h, EReal.bot_add]

/-- A sum without a term −∞ is not −∞. -/
theorem sum_ne_bot {n : ℕ} (x : Fin n → EReal) (h : ∀ k, x k ≠ ⊥) : ∑ k, x k ≠ ⊥ := by
  induction n with
  | zero => simp
  | succ n ih =>
    rw [Fin.sum_univ_succ]
    intro hb
    rcases EReal.add_eq_bot_iff.1 hb with hb | hb
    · exact h 0 hb
    · exact ih _ (fun k => h k.succ) hb

/-- A sum with a term +∞ and none −∞ is +∞. -/
theorem sum_top {n : ℕ} (x : Fin n → EReal) (h : ∀ k, x k ≠ ⊥) (k : Fin n) (hk : x k = ⊤) : ∑ k, x k = ⊤ := by
  induction n with
  | zero => exact k.elim0
  | succ n ih =>
    rw [Fin.sum_univ_succ]
    refine Fin.cases (fun h0 => ?_) (fun j hj => ?_) k hk
    · rw [h0, EReal.top_add_of_ne_bot (sum_ne_bot _ fun k => h k.succ)]
    · rw [ih _ (fun k => h k.succ) j hj, EReal.add_top_of_ne_bot (h 0)]

/-- A column has real entries only, or it has an infinite one. -/
theorem real_or {n : ℕ} (x : Fin n → EReal) : (∃ r : Fin n → ℝ, x = fun k => (r k : EReal)) ∨ ∃ k, x k = ⊤ ∨ x k = ⊥ := by
  by_cases h : ∃ k, x k = ⊤ ∨ x k = ⊥
  · exact Or.inr h
  · refine Or.inl ⟨fun k => (x k).toReal, funext fun k => ?_⟩
    have hk := not_exists.1 h k
    exact (EReal.coe_toReal (fun e => hk (Or.inl e)) (fun e => hk (Or.inr e))).symm

/-- The sum of a column with an infinite entry is infinite. -/
theorem sum_inf {n : ℕ} (x : Fin n → EReal) (h : ∃ k, x k = ⊤ ∨ x k = ⊥) : ∑ k, x k = ⊤ ∨ ∑ k, x k = ⊥ := by
  by_cases hb : ∃ k, x k = ⊥
  · obtain ⟨k, hk⟩ := hb
    exact Or.inr (sum_bot x k hk)
  · obtain ⟨k, hk | hk⟩ := h
    · exact Or.inl (sum_top x (fun j hj => hb ⟨j, hj⟩) k hk)
    · exact absurd ⟨k, hk⟩ hb

/-! ## The reference's normalisation -/

/-- A matrix normalised down its columns, scaled and shifted, the way the reference spells it. -/
def rN (X : Fin 4096 → Fin 256 → EReal) (g be : Fin 256 → EReal) : Fin 4096 → Fin 256 → EReal :=
  fun k l => Ideal.div (X k l - mean1 X l) (Ideal.sqrt (var1 X l + eps)) * g l + be l

/-- On reals the scale and offset form is the reference's form; the shift may be infinite. -/
theorem affine_real (x μ d g : ℝ) (hd : d ≠ 0) (be : EReal) :
    (x : EReal) * Ideal.div (g : EReal) (d : EReal) + (be - (μ : EReal) * Ideal.div (g : EReal) (d : EReal))
      = Ideal.div ((x : EReal) - (μ : EReal)) (d : EReal) * (g : EReal) + be := by
  rw [Ideal.div_coe hd, Ideal.div_coe hd, ← EReal.coe_mul, ← EReal.coe_mul, ← EReal.coe_mul, ← EReal.coe_sub, ← EReal.coe_mul, ← EReal.coe_mul,
    sub_eq_add_neg, ← EReal.coe_neg, add_comm be, ← add_assoc, ← EReal.coe_add]
  congr 2
  ring

/-- A real that is not negative plus the constant has a real root that is not zero. -/
theorem sqrt_eps (v : ℝ) (hv : 0 ≤ v) : ∃ d : ℝ, d ≠ 0 ∧ Ideal.sqrt ((v : EReal) + eps) = (d : EReal) := by
  obtain ⟨e, he, h⟩ := eps_real
  have hp : 0 < v + e := add_pos_of_nonneg_of_pos hv he
  refine ⟨Real.sqrt (v + e), (Real.sqrt_pos.2 hp).ne', ?_⟩
  rw [h, ← EReal.coe_add]
  exact if_neg (not_lt.2 hp.le)

/-- The mean of a real column. -/
theorem mean1_real (X : Fin 4096 → Fin 256 → EReal) (l : Fin 256) (r : Fin 4096 → ℝ) (h : ∀ k, X k l = (r k : EReal)) :
    mean1 X l = (((∑ k, r k) * (1 / 4096) : ℝ) : EReal) := by
  simp only [mean1, h]
  rw [sum_real, div_n4096, inv4096_eq, ← EReal.coe_mul]

/-- The variance of a real column. -/
theorem var1_real (X : Fin 4096 → Fin 256 → EReal) (l : Fin 256) (r : Fin 4096 → ℝ) (h : ∀ k, X k l = (r k : EReal)) :
    var1 X l = (((∑ k, (r k - (∑ k, r k) * (1 / 4096)) * (r k - (∑ k, r k) * (1 / 4096))) * (1 / 4096) : ℝ) : EReal) := by
  simp only [var1, mean1_real X l r h]
  simp only [h, ← EReal.coe_sub, ← EReal.coe_mul]
  rw [sum_real, div_n4096, inv4096_eq, ← EReal.coe_mul]

/-- A real column's variance is not negative. -/
theorem var_nonneg (r : Fin 4096 → ℝ) (μ : ℝ) : 0 ≤ (∑ k, (r k - μ) * (r k - μ)) * (1 / 4096) :=
  mul_nonneg (Finset.sum_nonneg fun k _ => mul_self_nonneg _) (by norm_num)

/-- The mean of a column with an infinite entry is infinite. -/
theorem mean1_inf (X : Fin 4096 → Fin 256 → EReal) (l : Fin 256) (h : ∃ k, X k l = ⊤ ∨ X k l = ⊥) : mean1 X l = ⊤ ∨ mean1 X l = ⊥ := by
  simp only [mean1, div_n4096, inv4096_eq]
  rcases sum_inf (fun k => X k l) h with e | e
  · exact Or.inl (by rw [e]; exact EReal.top_mul_coe_of_pos (by norm_num))
  · exact Or.inr (by rw [e]; exact EReal.bot_mul_coe_of_pos (by norm_num))

/-- The square of the distance from an infinite mean is +∞. -/
theorem sq_inf (x μ : EReal) (h : μ = ⊤ ∨ μ = ⊥) : (x - μ) * (x - μ) = ⊤ := by
  rcases h with rfl | rfl
  · simp
  · induction x <;> simp

/-- The variance of a column with an infinite entry is +∞. -/
theorem var1_inf (X : Fin 4096 → Fin 256 → EReal) (l : Fin 256) (h : ∃ k, X k l = ⊤ ∨ X k l = ⊥) : var1 X l = ⊤ := by
  simp only [var1, div_n4096, inv4096_eq, sq_inf _ _ (mean1_inf X l h)]
  rw [sum_top _ (fun _ => top_ne_bot) 0 rfl]
  exact EReal.top_mul_coe_of_pos (by norm_num)

/-- The reference's root over a column with an infinite entry is +∞. -/
theorem sqrt_inf (X : Fin 4096 → Fin 256 → EReal) (l : Fin 256) (h : ∃ k, X k l = ⊤ ∨ X k l = ⊥) : Ideal.sqrt (var1 X l + eps) = ⊤ := by
  obtain ⟨e, _, he⟩ := eps_real
  rw [var1_inf X l h, he, EReal.top_add_coe]
  rfl

/-- With a zero scale only the shift is left. -/
theorem affine_zero (x μ be : EReal) : x * 0 + (be - μ * 0) = be := by simp

/-- The reference's normalisation of a column with an infinite entry is the shift. -/
theorem rN_inf (X : Fin 4096 → Fin 256 → EReal) (g be : Fin 256 → EReal) (k : Fin 4096) (l : Fin 256) (h : ∃ k, X k l = ⊤ ∨ X k l = ⊥) :
    rN X g be k l = be l := by
  simp only [rN, sqrt_inf X l h, div_top, zero_mul, zero_add]

/-- The kernel's first normalisation is the reference's where the gain is finite. -/
theorem affine1 (X : Fin 4096 → Fin 256 → EReal) (g be : Fin 256 → EReal) (hg : ∀ l, ∃ r : ℝ, g l = (r : EReal)) :
    affine X (scale1 X g) (offs1 X g be) = rN X g be := by
  funext k l
  rcases real_or (fun k => X k l) with ⟨r, hr⟩ | h
  · have hx : ∀ k, X k l = (r k : EReal) := fun k => congrFun hr k
    obtain ⟨a, ha⟩ := hg l
    obtain ⟨d, hd, hs⟩ := sqrt_eps _ (var_nonneg r ((∑ k, r k) * (1 / 4096)))
    simp only [affine, offs1, scale1, rN, var1_real X l r hx, mean1_real X l r hx, hs, hx, ha]
    exact affine_real _ _ _ _ hd _
  · rw [rN_inf X g be k l h]
    simp only [affine, offs1, scale1, sqrt_inf X l h, div_top]
    exact affine_zero _ _ _

/-- The summed squared distances from a number, expanded. -/
theorem sum_sq {n : ℕ} (r : Fin n → ℝ) (μ : ℝ) : ∑ k, (r k - μ) * (r k - μ) = (∑ k, r k * r k) - 2 * μ * (∑ k, r k) + n * (μ * μ) := by
  induction n with
  | zero => simp
  | succ n ih =>
    simp only [Fin.sum_univ_succ]
    rw [ih]
    push_cast
    ring

/-- The mean of the squares less the square of the mean is the mean squared distance from the mean. -/
theorem var_split (r : Fin 4096 → ℝ) :
    (∑ k, r k * r k) * (1 / 4096) - (∑ k, r k) * (1 / 4096) * ((∑ k, r k) * (1 / 4096))
      = (∑ k, (r k - (∑ k, r k) * (1 / 4096)) * (r k - (∑ k, r k) * (1 / 4096))) * (1 / 4096) := by
  rw [sum_sq]
  generalize ∑ k, r k = s
  generalize ∑ k, r k * r k = q
  push_cast
  ring

/-- The kernel's second normalisation is the reference's over a matrix without negative entries and with a finite gain. -/
theorem affine2 (H : Fin 4096 → Fin 256 → EReal) (g be : Fin 256 → EReal) (hg : ∀ l, ∃ r : ℝ, g l = (r : EReal)) (hH : ∀ k l, 0 ≤ H k l) :
    affine H (scale2 H g) (offs2 H g be) = rN H g be := by
  funext k l
  rcases real_or (fun k => H k l) with ⟨r, hr⟩ | h
  · have hx : ∀ k, H k l = (r k : EReal) := fun k => congrFun hr k
    obtain ⟨a, ha⟩ := hg l
    obtain ⟨d, hd, hs⟩ := sqrt_eps _ (var_nonneg r ((∑ k, r k) * (1 / 4096)))
    have hm : mean2 H l = (((∑ k, r k) * (1 / 4096) : ℝ) : EReal) := by
      simp only [mean2, hx]
      rw [sum_real, inv4096_eq, ← EReal.coe_mul]
    have hq : (∑ k, H k l * H k l) * inv4096 - mean2 H l * mean2 H l
        = (((∑ k, (r k - (∑ k, r k) * (1 / 4096)) * (r k - (∑ k, r k) * (1 / 4096))) * (1 / 4096) : ℝ) : EReal) := by
      rw [hm]
      simp only [hx, ← EReal.coe_mul]
      rw [sum_real, inv4096_eq, ← EReal.coe_mul, ← EReal.coe_sub, var_split]
    have hc : scale2 H g l = Ideal.div (a : EReal) (d : EReal) := by
      unfold scale2
      rw [hq, hs, ha]
    simp only [affine, offs2, hc, rN, var1_real H l r hx, mean1_real H l r hx, hm, hs, hx, ha]
    exact affine_real _ _ _ _ hd _
  · rw [rN_inf H g be k l h]
    have hb : ∀ k, H k l ≠ ⊥ := fun k e => absurd (e ▸ hH k l) (by simp)
    obtain ⟨j, hj⟩ : ∃ j, H j l = ⊤ := h.imp fun j hj => hj.resolve_right (hb j)
    have hm : mean2 H l = ⊤ := by
      simp only [mean2, inv4096_eq]
      rw [sum_top _ hb j hj]
      exact EReal.top_mul_coe_of_pos (by norm_num)
    have hs : Ideal.sqrt ((∑ k, H k l * H k l) * inv4096 - mean2 H l * mean2 H l + eps) = ⊥ := by
      rw [hm, EReal.top_mul_top, EReal.sub_top, EReal.bot_add]
      rfl
    simp only [affine, offs2, scale2, hs, div_bot]
    exact affine_zero _ _ _

/-! ## The reference's result -/

/-- The four terms of a layer, and its bias. -/
def conv (L : Fin 4096 → Fin 4096 → EReal) (T : Fin 4096 → Fin 256 → EReal) (W : Fin 4 → Fin 256 → Fin 256 → EReal) (b : Fin 256 → EReal) :
    Fin 4096 → Fin 256 → EReal := fun k l =>
  prod T (W 0) k l + prod (prod L T) (W 1) k l + prod (cheb two L (prod L T) T) (W 2) k l
    + prod (cheb two L (cheb two L (prod L T) T) (prod L T)) (W 3) k l + b l

/-- The reference's first layer after the rectifier. -/
def rH (X : Fin 4096 → Fin 256 → EReal) (L : Fin 4096 → Fin 4096 → EReal) (g1 e1 : Fin 256 → EReal) (W1 : Fin 4 → Fin 256 → Fin 256 → EReal)
    (b1 : Fin 256 → EReal) : Fin 4096 → Fin 256 → EReal := fun k l => max (conv L (rN X g1 e1) W1 b1 k l) 0

/-- The reference's result. -/
def rOut (X : Fin 4096 → Fin 256 → EReal) (L : Fin 4096 → Fin 4096 → EReal) (g1 e1 : Fin 256 → EReal) (W1 : Fin 4 → Fin 256 → Fin 256 → EReal)
    (b1 g2 e2 : Fin 256 → EReal) (W2 : Fin 4 → Fin 256 → Fin 256 → EReal) (b2 : Fin 256 → EReal) : Fin 4096 → Fin 256 → EReal :=
  fun k l => max (rN X g1 e1 k l + conv L (rN (rH X L g1 e1 W1 b1) g2 e2) W2 b2 k l) 0

/-- With finite gains the kernel's result is the reference's. -/
theorem kOut_eq (X : Fin 4096 → Fin 256 → EReal) (L : Fin 4096 → Fin 4096 → EReal) (g1 e1 : Fin 256 → EReal) (W1 : Fin 4 → Fin 256 → Fin 256 → EReal)
    (b1 g2 e2 : Fin 256 → EReal) (W2 : Fin 4 → Fin 256 → Fin 256 → EReal) (b2 : Fin 256 → EReal)
    (h1 : ∀ l, ∃ r : ℝ, g1 l = (r : EReal)) (h2 : ∀ l, ∃ r : ℝ, g2 l = (r : EReal)) :
    kOut X L g1 e1 W1 b1 g2 e2 W2 b2 = rOut X L g1 e1 W1 b1 g2 e2 W2 b2 := by
  have hT : kT0 X g1 e1 = rN X g1 e1 := affine1 X g1 e1 h1
  have hH : kH X L g1 e1 W1 b1 = rH X L g1 e1 W1 b1 := by
    unfold kH
    rw [hT]
    rfl
  have hN : kN0 X L g1 e1 W1 b1 g2 e2 = rN (rH X L g1 e1 W1 b1) g2 e2 := by
    unfold kN0
    rw [hH]
    exact affine2 _ g2 e2 h2 fun k l => le_max_right _ _
  unfold kOut
  rw [hN]
  funext k l
  have hx : affine X (scale1 X g1) (offs1 X g1 e1) k l = rN X g1 e1 k l := congrFun (congrFun hT k) l
  simp only [last, rOut, conv, hx, add_assoc]

end Cert.KernelIdeal.Hand

end
-- ==== Proof.Result.lean ====
/-
  The result array after the kernel's run.
-/
module

public import proofs.«01_k».proof.Proof.Norm
public import proofs.«01_k».proof.Proof.FrameI

@[expose] public section

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (c : Dev nD)

/-- The result's window stands at the array's origin at every point. -/
theorem idx10 : ∀ t : Fin cfg0.N, win0_10.index t = ![0, 0] := (by decide +kernel : ∀ t : Fin grid0.N, _)

/-- The result as an array over the arguments. -/
def result : FVec Ideal S4096x256 .f32 := fun y =>
  kOut (mat (argX m c)) (mat (argL m c)) (vec (argG1 m c)) (vec (argE1 m c)) (wts (argW1 m c)) (vec (argB1 m c)) (vec (argG2 m c)) (vec (argE2 m c))
    (wts (argW2 m c)) (vec (argB2 m c)) (y 0) (y 1)

/-- The array the body leaves at a point is the result. -/
theorem outAt_result (t : Fin cfg0.N) : (outAt m c t : FVec Ideal S4096x256 .f32) = result m c := by
  funext y
  obtain ⟨k, l, rfl⟩ : ∃ (k : Fin 4096) (l : Fin 256), y = ix2 k l := ⟨y 0, y 1, by funext a; fin_cases a <;> rfl⟩
  exact outAt_at m c t k l

/-- After the run the result's array is the result. -/
theorem final : (dats m 0 c).arrAt 10 cfg0.N = result m c := by
  refine (dats m 0 c).arrAt_eq_of_covers 10 _ (by decide +kernel) fun t hf y => ?_
  blk_simp
  rw [show (dats m 0 c).after 10 t = outAt m c t by dsimp only [dats]]
  refine (congrFun (outAt_result m c t) y).trans (congrArg (result m c) ?_)
  blk_ext [idx10 t]

end Cert.KernelIdeal.Hand

end
-- ==== Proof.Ref.lean ====
/-
  The reference's result in exact arithmetic as a function of the arguments' matrices.
-/
module

public import proofs.«01_k».proof.Proof.Norm
public import proofs.«01_k».proof.Proof.Gen.ReferenceIdeal.Run

@[expose] public section

set_option maxRecDepth 16384

noncomputable section

open Idealize.ShloMosaic Idealize.ShloMosaic.StableHlo Idealize.SL.Sem

namespace Cert.ReferenceIdeal.Hand

open Cert.ReferenceIdeal Cert.ReferenceIdeal.Gen Cert.ReferenceIdeal.Value
open Cert.KernelIdeal.Hand (mat vec wts prod cheb two two_eq n4096 eps mean1 var1 rN conv rH rOut)

variable (V : Valuation τ sig (Elt Ideal))

/-- The numeral 2.0 as the reference spells it. -/
abbrev two32 : EReal := Ideal.ofBits .f32 0x40000000#32

/-- The arguments' matrices and vectors. -/
abbrev X : Fin 4096 → Fin 256 → EReal := mat (V (Proc.devRef .tc main_arg0) : FVec Ideal S4096x256 .f32)
abbrev L : Fin 4096 → Fin 4096 → EReal := mat (V (Proc.devRef .tc main_arg1) : FVec Ideal S4096x4096 .f32)
abbrev G1 : Fin 256 → EReal := vec (V (Proc.devRef .tc main_arg2) : FVec Ideal S256 .f32)
abbrev E1 : Fin 256 → EReal := vec (V (Proc.devRef .tc main_arg3) : FVec Ideal S256 .f32)
abbrev W1 : Fin 4 → Fin 256 → Fin 256 → EReal := wts (V (Proc.devRef .tc main_arg4) : FVec Ideal S4x256x256 .f32)
abbrev B1 : Fin 256 → EReal := vec (V (Proc.devRef .tc main_arg5) : FVec Ideal S256 .f32)
abbrev G2 : Fin 256 → EReal := vec (V (Proc.devRef .tc main_arg6) : FVec Ideal S256 .f32)
abbrev E2 : Fin 256 → EReal := vec (V (Proc.devRef .tc main_arg7) : FVec Ideal S256 .f32)
abbrev W2 : Fin 4 → Fin 256 → Fin 256 → EReal := wts (V (Proc.devRef .tc main_arg8) : FVec Ideal S4x256x256 .f32)
abbrev B2 : Fin 256 → EReal := vec (V (Proc.devRef .tc main_arg9) : FVec Ideal S256 .f32)

/-- The normalised input, and the first layer after the rectifier. -/
abbrev R : Fin 4096 → Fin 256 → EReal := rN (X V) (G1 V) (E1 V)
abbrev H : Fin 4096 → Fin 256 → EReal := rH (X V) (L V) (G1 V) (E1 V) (W1 V) (B1 V)

/-- The normalised first layer. -/
abbrev N : Fin 4096 → Fin 256 → EReal := rN (H V) (G2 V) (E2 V)

/-- The mean of the input's columns. -/
theorem v2_at (l : Fin 256) : (res_main_v2 V : FVec Ideal S256 .f32) (ix1 l) = mean1 (X V) l := by
  pointwise [res_main_v2]
  rfl

/-- The normalised input. -/
theorem v24_at (k : Fin 4096) (l : Fin 256) : (res_main_v24 V : FVec Ideal S4096x256 .f32) (ix2 k l) = R V k l := by
  pointwise [res_main_v24, res_main_v5, v2_at V]
  rfl

/-- The graph operator over the normalised input. -/
theorem v28_at (k : Fin 4096) (l : Fin 256) : (res_main_v28 V : FVec Ideal S4096x256 .f32) (ix2 k l) = prod (L V) (R V) k l := by
  pointwise [res_main_v28, v24_at V]
  rfl

/-- The next term of the recurrence. -/
theorem v36_at (k : Fin 4096) (l : Fin 256) : (res_main_v36 V : FVec Ideal S4096x256 .f32) (ix2 k l) = cheb two32 (L V) (prod (L V) (R V)) (R V) k l := by
  pointwise [res_main_v36, v28_at V, v24_at V]
  rfl

/-- The first layer after the rectifier. -/
theorem v52_at (k : Fin 4096) (l : Fin 256) : (res_main_v52 V : FVec Ideal S4096x256 .f32) (ix2 k l) = H V k l := by
  unfold H rH conv
  rw [two_eq]
  pointwise [res_main_v52, v36_at V, v28_at V, v24_at V]
  rfl

/-- The mean of the first layer's columns. -/
theorem v55_at (l : Fin 256) : (res_main_v55 V : FVec Ideal S256 .f32) (ix1 l) = mean1 (H V) l := by
  pointwise [res_main_v55, v52_at V]
  rfl

/-- The normalised first layer. -/
theorem v77_at (k : Fin 4096) (l : Fin 256) : (res_main_v77 V : FVec Ideal S4096x256 .f32) (ix2 k l) = N V k l := by
  pointwise [res_main_v77, res_main_v58, v55_at V, v52_at V]
  rfl

/-- The graph operator over the normalised first layer. -/
theorem v81_at (k : Fin 4096) (l : Fin 256) : (res_main_v81 V : FVec Ideal S4096x256 .f32) (ix2 k l) = prod (L V) (N V) k l := by
  pointwise [res_main_v81, v77_at V]
  rfl

/-- The next term of the second recurrence. -/
theorem v89_at (k : Fin 4096) (l : Fin 256) : (res_main_v89 V : FVec Ideal S4096x256 .f32) (ix2 k l) = cheb two32 (L V) (prod (L V) (N V)) (N V) k l := by
  pointwise [res_main_v89, v81_at V, v77_at V]
  rfl

/-- The reference runs, leaves its result as a function of the arguments' matrices, and keeps its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v106) : FVec Ideal S4096x256 .f32) = (fun y =>
        rOut (mat (m ((c.tc : Thread nD τ).loc main_arg0) : FVec Ideal S4096x256 .f32)) (mat (m ((c.tc : Thread nD τ).loc main_arg1) : FVec Ideal S4096x4096 .f32))
          (vec (m ((c.tc : Thread nD τ).loc main_arg2) : FVec Ideal S256 .f32)) (vec (m ((c.tc : Thread nD τ).loc main_arg3) : FVec Ideal S256 .f32))
          (wts (m ((c.tc : Thread nD τ).loc main_arg4) : FVec Ideal S4x256x256 .f32)) (vec (m ((c.tc : Thread nD τ).loc main_arg5) : FVec Ideal S256 .f32))
          (vec (m ((c.tc : Thread nD τ).loc main_arg6) : FVec Ideal S256 .f32)) (vec (m ((c.tc : Thread nD τ).loc main_arg7) : FVec Ideal S256 .f32))
          (wts (m ((c.tc : Thread nD τ).loc main_arg8) : FVec Ideal S4x256x256 .f32)) (vec (m ((c.tc : Thread nD τ).loc main_arg9) : FVec Ideal S256 .f32)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine θ_run_mono (Value.run (F := Ideal) m ρ) fun r h c => ⟨(h c).1.trans ?_, (h c).2⟩
  show _ = fun y : S4096x256.Idx => rOut (X (launchContents m c)) (L (launchContents m c)) (G1 (launchContents m c)) (E1 (launchContents m c)) (W1 (launchContents m c))
    (B1 (launchContents m c)) (G2 (launchContents m c)) (E2 (launchContents m c)) (W2 (launchContents m c)) (B2 (launchContents m c)) (y 0) (y 1)
  generalize launchContents m c = V
  funext y
  obtain ⟨k, l, rfl⟩ : ∃ (k : Fin 4096) (l : Fin 256), y = ix2 k l := ⟨y 0, y 1, by funext a; fin_cases a <;> rfl⟩
  unfold rOut conv
  rw [two_eq]
  pointwise [v24_at V, v77_at V, v81_at V, v89_at V]
  rfl

end Cert.ReferenceIdeal.Hand

end
-- ==== Proof.lean ====
/-
  The claims about the two programs, put together: the frames of the kernel's program in both readings and of the
  reference's, the preservation claim, and the equality of results.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.FrameK
public import proofs.«01_k».proof.Proof.FrameI
public import proofs.«01_k».proof.Proof.Result
public import proofs.«01_k».proof.Proof.Ref
public import Idealize.ShloMosaic.Adequacy
public import Idealize.ShloMosaic.Init

@[expose] public section

noncomputable section

namespace Cert.Proof

open Idealize.ShloMosaic Idealize.ShloMosaic.StableHlo Idealize.SL.Sem Cert.Kernel

/-- The kernel's program ends, faults nowhere, and leaves its arguments and every counter as they were. -/
theorem frame_kernel : Cert.quiescent_Kernel := fun m ρ _ => Cert.Kernel.Hand.frame (F := Bits) m ρ

/-- The same in exact arithmetic. -/
theorem frame_kernel_ideal : Cert.quiescent_KernelIdeal := fun m ρ _ => Cert.KernelIdeal.Hand.frame (F := Ideal) m ρ

/-- The reference ends and leaves its arguments as they were; it has no semaphore. -/
theorem frame_reference : Cert.quiescent_ReferenceIdeal := fun m ρ _ =>
  θ_run_mono (Cert.ReferenceIdeal.Value.run (F := Ideal) m ρ) fun r h => ⟨fun c => (h c).2, sem_eq_zero_of_no_sems (by decide) r.2⟩

/-- The precondition's one side condition. -/
theorem pre_facts : Cert.Pre_scales_finite.Facts := ⟨by decide⟩

/-- The two frames under the precondition are the frames without it. -/
theorem frame_kernel_ideal_pre : Cert.quiescent_KernelIdeal_pre_scales_finite (hPre_scales_finite := pre_facts) :=
  fun m ρ _ => Cert.KernelIdeal.Hand.frame (F := Ideal) m ρ

theorem frame_reference_pre : Cert.quiescent_ReferenceIdeal_pre_scales_finite (hPre_scales_finite := pre_facts) :=
  fun m ρ _ => frame_reference m ρ True.intro

/-- An extended real whose absolute value is below the f32 infinity is a real. -/
theorem real_of_abs_lt (x : Ideal .f32) (h : FloatOps.absf x < Ideal.ofBits .f32 0x7F800000#32) : ∃ r : ℝ, x = (r : EReal) := by
  change max (x : EReal) (-x) < _ at h
  rw [show Ideal.ofBits .f32 0x7F800000#32 = (⊤ : EReal) by simp [Ideal.ofBits, Ideal.ieee]] at h
  obtain ⟨h1, h2⟩ := max_lt_iff.1 h
  refine ⟨EReal.toReal x, (EReal.coe_toReal h1.ne fun e => ?_).symm⟩
  rw [e] at h2
  exact absurd h2 (by simp)

/-- What the precondition says: every entry of the two scales is a real. -/
theorem scales_real (a0 : FVec Ideal S4096x256 .f32) (a1 : FVec Ideal S4096x4096 .f32) (a2 a3 : FVec Ideal S256 .f32) (a4 : FVec Ideal S4x256x256 .f32)
    (a5 a6 a7 : FVec Ideal S256 .f32) (a8 : FVec Ideal S4x256x256 .f32) (a9 : FVec Ideal S256 .f32)
    (h : @Cert.Pre_scales_finite.fn pre_facts Ideal _ a0 a1 a2 a3 a4 a5 a6 a7 a8 a9 = fun _ => 1#1) (l : Fin 256) :
    (∃ r : ℝ, a2 (ix1 l) = (r : EReal)) ∧ ∃ r : ℝ, a6 (ix1 l) = (r : EReal) := by
  have e := congrFun h (ix1 l)
  revert e
  pointwise [Cert.Pre_scales_finite.fn]
  intro e
  have hb : ∀ p q : Bool, IntOp.andi (BitVec.ofBool p) (BitVec.ofBool q) = 1#1 → p = true ∧ q = true := by decide
  obtain ⟨h1, h2⟩ := hb _ _ e
  exact ⟨real_of_abs_lt _ (of_decide_eq_true h1), real_of_abs_lt _ (of_decide_eq_true h2)⟩

/-- From memories that agree on the arguments, with real scales, the kernel and the reference leave equal results. -/
theorem equal_results : Cert.algebraic_KernelIdeal_ReferenceIdeal_pre_scales_finite (hPre_scales_finite := pre_facts) := by
  intro m g m' g' hpre hagree
  refine ⟨fun c => Cert.KernelIdeal.Hand.result m c, ?_, ?_⟩
  · run_from Cert.KernelIdeal.Hand.frame m g & Cert.KernelIdeal.Hand.run_main m g
    exact Cert.KernelIdeal.Hand.final m c
  · refine θ_run_mono (Cert.ReferenceIdeal.Hand.run m' g') fun r h c => ⟨(h c).1.trans ?_, (h c).2⟩
    obtain ⟨e0, e1, e2, e3, e4, e5, e6, e7, e8, e9⟩ := hagree c
    rw [e0, e1, e2, e3, e4, e5, e6, e7, e8, e9]
    have hr := scales_real _ _ _ _ _ _ _ _ _ _ (hpre c)
    funext y
    exact (congrFun (congrFun (Cert.KernelIdeal.Hand.kOut_eq _ _ _ _ _ _ _ _ _ _ (fun l => (hr l).1) (fun l => (hr l).2)) (y 0)) (y 1)).symm

/-- Every claim. -/
theorem claim : Cert.Claim := ⟨Cert.Kernel.Gen.facts, Cert.KernelIdeal.Gen.facts, Cert.ReferenceIdeal.Gen.facts, pre_facts,
  frame_kernel, frame_kernel_ideal, frame_kernel_ideal_pre, frame_reference, frame_reference_pre, trivial, equal_results⟩

end Cert.Proof

end
